-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels [hPre_labels : Cert.Pre_labels.Facts] (m : (ℓ : Loc Cert.KernelIdeal.nD Cert.KernelIdeal.τ Cert.KernelIdeal.sig) → Buf (Elt Ideal) ℓ) : Prop :=
  ∀ c : Dev Cert.KernelIdeal.nD,
    (Cert.Pre_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels [hPre_labels : Cert.Pre_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels [hKernelIdeal : Cert.KernelIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels [hReferenceIdeal : Cert.ReferenceIdeal.Facts] [hPre_labels : Cert.Pre_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels [hKernelIdeal : Cert.KernelIdeal.Facts] [hReferenceIdeal : Cert.ReferenceIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels : Cert.Pre_labels.Facts),
    quiescent_Kernel (hKernel := hKernel)
    ∧ quiescent_KernelIdeal (hKernelIdeal := hKernelIdeal)
    ∧ quiescent_KernelIdeal_pre_labels (hKernelIdeal := hKernelIdeal) (hPre_labels := hPre_labels)
    ∧ quiescent_ReferenceIdeal (hReferenceIdeal := hReferenceIdeal)
    ∧ quiescent_ReferenceIdeal_pre_labels (hReferenceIdeal := hReferenceIdeal) (hPre_labels := hPre_labels)
    ∧ preserves_Kernel_KernelIdeal
    ∧ algebraic_KernelIdeal_ReferenceIdeal_pre_labels (hKernelIdeal := hKernelIdeal) (hReferenceIdeal := hReferenceIdeal) (hPre_labels := hPre_labels)
-- ==== Pre_labels.lean ====
abbrev S1024x9605 : Shape := ⟨2, ![1024, 9605]⟩
abbrev S_ : Shape := ⟨0, ![]⟩

class Facts : Prop where
  bcast_S_S1024x9605 : S_.BroadcastsInDim S1024x9605 (![] : Fin 0 → Fin S1024x9605.rank)
  reducesTo_S1024x9605_S_d0_1 : S1024x9605.ReducesTo [0, 1] S_
  h_S_ : 0 < S_.numel

variable [Facts]

def fn {F : FTy → Type} [FloatOps F] (main_arg0 : FVec F S1024x9605 .f32) (main_arg1 : IVec S1024x9605 32) : IVec S_ 1 :=
  let main_c : IVec S_ 32 := constantI S_ 32 0#32
  let main_v0 : IVec S1024x9605 32 := broadcastInDim S1024x9605 ![] bcast_S_S1024x9605 main_c
  let main_v1 : IVec S1024x9605 1 := cmpi .eq main_arg1 main_v0
  let main_c_0 : IVec S_ 32 := constantI S_ 32 1#32
  let main_v2 : IVec S1024x9605 32 := broadcastInDim S1024x9605 ![] bcast_S_S1024x9605 main_c_0
  let main_v3 : IVec S1024x9605 1 := cmpi .eq main_arg1 main_v2
  let main_v4 : IVec S1024x9605 1 := ori main_v1 main_v3
  let main_c_1 : IVec S_ 1 := constantI S_ 1 1#1
  let main_v5 : IVec S_ 1 := (fun x v => Host.reduce IntOp.andi x v reducesTo_S1024x9605_S_d0_1 h_S_) main_v4 main_c_1
  main_v5
-- ==== Kernel.lean ====
abbrev S1024x9605 : Shape := ⟨2, ![1024, 9605]⟩
abbrev S1x1 : Shape := ⟨2, ![1, 1]⟩
abbrev S_ : Shape := ⟨0, ![]⟩
abbrev S64x9605 : Shape := ⟨2, ![64, 9605]⟩
abbrev S1x64x9605 : Shape := ⟨3, ![1, 64, 9605]⟩
abbrev S1 : Shape := ⟨1, ![1]⟩
abbrev S1x1x1 : Shape := ⟨3, ![1, 1, 1]⟩
abbrev S64x30 : Shape := ⟨2, ![64, 30]⟩
abbrev S64 : Shape := ⟨1, ![64]⟩
abbrev S64x70 : Shape := ⟨2, ![64, 70]⟩
abbrev S64x1 : Shape := ⟨2, ![64, 1]⟩
abbrev S1x64 : Shape := ⟨2, ![1, 64]⟩

abbrev nBuf : Space → Nat
  | .hbm => 5
  | .vmem => 5
  | .smem => 0
  | _ => 0

abbrev bufTy : (tb : Table) → Fin (tcTables nBuf tb) → BufTy
  | .hbm, ⟨0, _⟩ => ⟨S1024x9605, .f32⟩
  | .hbm, ⟨1, _⟩ => ⟨S1024x9605, .i32⟩
  | .hbm, ⟨2, _⟩ => ⟨S1x1, .f32⟩
  | .hbm, ⟨3, _⟩ => ⟨S_, .f32⟩
  | .hbm, ⟨4, _⟩ => ⟨S_, .f32⟩
  | .local _ .vmem, ⟨0, _⟩ => ⟨S64x9605, .f32⟩
  | .local _ .vmem, ⟨1, _⟩ => ⟨S64x9605, .f32⟩
  | .local _ .vmem, ⟨2, _⟩ => ⟨S64x9605, .i32⟩
  | .local _ .vmem, ⟨3, _⟩ => ⟨S64x9605, .i32⟩
  | .local _ .vmem, ⟨4, _⟩ => ⟨S1x1, .f32⟩
  | _, _ => ⟨S1024x9605, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x9605 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9605 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x9605 : Shape := ⟨2, ![1024, 9605]⟩
abbrev S9605 : Shape := ⟨1, ![9605]⟩
abbrev S_ : Shape := ⟨0, ![]⟩
abbrev S1024x30 : Shape := ⟨2, ![1024, 30]⟩
abbrev S1024 : Shape := ⟨1, ![1024]⟩
abbrev S1024x70 : Shape := ⟨2, ![1024, 70]⟩
abbrev S1024x10 : Shape := ⟨2, ![1024, 10]⟩
abbrev S1024x10x1 : Shape := ⟨3, ![1024, 10, 1]⟩
abbrev S1x1x9605 : Shape := ⟨3, ![1, 1, 9605]⟩
abbrev S1024x10x9605 : Shape := ⟨3, ![1024, 10, 9605]⟩
abbrev S1x9605 : Shape := ⟨2, ![1, 9605]⟩
abbrev S1024x1 : Shape := ⟨2, ![1024, 1]⟩

abbrev nBuf : Space → Nat
  | .hbm => 197
  | .vmem => 0
  | .smem => 0
  | _ => 0

abbrev hbmTy0_0 (i : Nat) : BufTy := match i % 128 with
  | 0 => ⟨S1024x9605, .f32⟩
  | 1 => ⟨S1024x9605, .i32⟩
  | 2 => ⟨S1024x9605, .f32⟩
  | 3 => ⟨S9605, .i32⟩
  | 4 => ⟨S_, .i32⟩
  | 5 => ⟨S9605, .i32⟩
  | 6 => ⟨S9605, .i1⟩
  | 7 => ⟨S_, .i32⟩
  | 8 => ⟨S9605, .i32⟩
  | 9 => ⟨S9605, .i1⟩
  | 10 => ⟨S_, .i32⟩
  | 11 => ⟨S9605, .i32⟩
  | 12 => ⟨S9605, .i1⟩
  | 13 => ⟨S9605, .i1⟩
  | 14 => ⟨S_, .i32⟩
  | 15 => ⟨S9605, .i32⟩
  | 16 => ⟨S9605, .i1⟩
  | 17 => ⟨S_, .i32⟩
  | 18 => ⟨S9605, .i32⟩
  | 19 => ⟨S9605, .i1⟩
  | 20 => ⟨S9605, .i1⟩
  | 21 => ⟨S_, .i32⟩
  | 22 => ⟨S9605, .i32⟩
  | 23 => ⟨S9605, .i1⟩
  | 24 => ⟨S_, .i32⟩
  | 25 => ⟨S9605, .i32⟩
  | 26 => ⟨S9605, .i1⟩
  | 27 => ⟨S9605, .i1⟩
  | 28 => ⟨S_, .i32⟩
  | 29 => ⟨S_, .i32⟩
  | 30 => ⟨S9605, .i32⟩
  | 31 => ⟨S9605, .i32⟩
  | 32 => ⟨S9605, .i32⟩
  | 33 => ⟨S_, .i32⟩
  | 34 => ⟨S9605, .i32⟩
  | 35 => ⟨S9605, .i32⟩
  | 36 => ⟨S_, .i32⟩
  | 37 => ⟨S9605, .i32⟩
  | 38 => ⟨S9605, .i32⟩
  | 39 => ⟨S9605, .i1⟩
  | 40 => ⟨S9605, .i1⟩
  | 41 => ⟨S9605, .i1⟩
  | 42 => ⟨S1024x9605, .f32⟩
  | 43 => ⟨S1024x9605, .f32⟩
  | 44 => ⟨S_, .f32⟩
  | 45 => ⟨S1024x9605, .f32⟩
  | 46 => ⟨S1024x9605, .f32⟩
  | 47 => ⟨S_, .f32⟩
  | 48 => ⟨S1024x9605, .f32⟩
  | 49 => ⟨S1024x9605, .f32⟩
  | 50 => ⟨S_, .f32⟩
  | 51 => ⟨S1024x9605, .f32⟩
  | 52 => ⟨S1024x9605, .f32⟩
  | 53 => ⟨S_, .f32⟩
  | 54 => ⟨S1024x9605, .f32⟩
  | 55 => ⟨S1024x9605, .f32⟩
  | 56 => ⟨S_, .f32⟩
  | 57 => ⟨S1024x9605, .f32⟩
  | 58 => ⟨S1024x9605, .f32⟩
  | 59 => ⟨S_, .f32⟩
  | 60 => ⟨S_, .f32⟩
  | 61 => ⟨S1024x9605, .f32⟩
  | 62 => ⟨S1024x9605, .f32⟩
  | 63 => ⟨S1024x9605, .f32⟩
  | 64 => ⟨S1024x9605, .f32⟩
  | 65 => ⟨S_, .f32⟩
  | 66 => ⟨S1024x9605, .f32⟩
  | 67 => ⟨S1024x9605, .f32⟩
  | 68 => ⟨S_, .f32⟩
  | 69 => ⟨S_, .f32⟩
  | 70 => ⟨S1024x9605, .f32⟩
  | 71 => ⟨S1024x9605, .f32⟩
  | 72 => ⟨S1024x9605, .f32⟩
  | 73 => ⟨S1024x9605, .f32⟩
  | 74 => ⟨S1024x9605, .f32⟩
  | 75 => ⟨S1024x30, .f32⟩
  | 76 => ⟨S_, .f32⟩
  | 77 => ⟨S1024, .f32⟩
  | 78 => ⟨S_, .f32⟩
  | 79 => ⟨S1024, .f32⟩
  | 80 => ⟨S1024, .i1⟩
  | 81 => ⟨S1024x70, .f32⟩
  | 82 => ⟨S_, .f32⟩
  | 83 => ⟨S1024, .f32⟩
  | 84 => ⟨S_, .f32⟩
  | 85 => ⟨S1024, .f32⟩
  | 86 => ⟨S1024, .i1⟩
  | 87 => ⟨S1024x70, .f32⟩
  | 88 => ⟨S_, .f32⟩
  | 89 => ⟨S1024, .f32⟩
  | 90 => ⟨S_, .f32⟩
  | 91 => ⟨S1024, .f32⟩
  | 92 => ⟨S1024, .i1⟩
  | 93 => ⟨S1024, .i1⟩
  | 94 => ⟨S1024, .i1⟩
  | 95 => ⟨S1024, .i1⟩
  | 96 => ⟨S1024x10, .f32⟩
  | 97 => ⟨S1024x10, .i32⟩
  | 98 => ⟨S1024x10x1, .i32⟩
  | 99 => ⟨S1x1x9605, .i32⟩
  | 100 => ⟨S1024x10x9605, .i32⟩
  | 101 => ⟨S1024x10x9605, .i32⟩
  | 102 => ⟨S1024x10x9605, .i1⟩
  | 103 => ⟨S_, .i1⟩
  | 104 => ⟨S1024x9605, .i1⟩
  | 105 => ⟨S9605, .i1⟩
  | 106 => ⟨S1x9605, .i1⟩
  | 107 => ⟨S1024x1, .i1⟩
  | 108 => ⟨S1024x9605, .i1⟩
  | 109 => ⟨S1024x9605, .i1⟩
  | 110 => ⟨S1024x9605, .i1⟩
  | 111 => ⟨S1x9605, .i32⟩
  | 112 => ⟨S_, .i32⟩
  | 113 => ⟨S1x9605, .i32⟩
  | 114 => ⟨S1x9605, .i1⟩
  | 115 => ⟨S1024x1, .i1⟩
  | 116 => ⟨S_, .i1⟩
  | 117 => ⟨S1x9605, .i1⟩
  | 118 => ⟨S1x9605, .i1⟩
  | 119 => ⟨S1x9605, .i1⟩
  | 120 => ⟨S1024x9605, .i1⟩
  | 121 => ⟨S1024x9605, .i1⟩
  | 122 => ⟨S1024x9605, .i1⟩
  | 123 => ⟨S_, .i32⟩
  | 124 => ⟨S1x9605, .i32⟩
  | 125 => ⟨S1x9605, .i1⟩
  | 126 => ⟨S1024x1, .i1⟩
  | 127 => ⟨S_, .i1⟩
  | _ => ⟨S1024x9605, .f32⟩

abbrev hbmTy0_1 (i : Nat) : BufTy := match i % 128 with
  | 0 => ⟨S1x9605, .i1⟩
  | 1 => ⟨S1x9605, .i1⟩
  | 2 => ⟨S1x9605, .i1⟩
  | 3 => ⟨S1024x9605, .i1⟩
  | 4 => ⟨S1024x9605, .i1⟩
  | 5 => ⟨S1024x9605, .i1⟩
  | 6 => ⟨S1024x9605, .i1⟩
  | 7 => ⟨S_, .i32⟩
  | 8 => ⟨S1x9605, .i32⟩
  | 9 => ⟨S1x9605, .i1⟩
  | 10 => ⟨S1024x1, .i1⟩
  | 11 => ⟨S_, .i1⟩
  | 12 => ⟨S1x9605, .i1⟩
  | 13 => ⟨S1x9605, .i1⟩
  | 14 => ⟨S1x9605, .i1⟩
  | 15 => ⟨S1024x9605, .i1⟩
  | 16 => ⟨S1024x9605, .i1⟩
  | 17 => ⟨S1024x9605, .i1⟩
  | 18 => ⟨S1024x9605, .i1⟩
  | 19 => ⟨S_, .i32⟩
  | 20 => ⟨S1x9605, .i32⟩
  | 21 => ⟨S1x9605, .i1⟩
  | 22 => ⟨S1024x1, .i1⟩
  | 23 => ⟨S_, .i1⟩
  | 24 => ⟨S1x9605, .i1⟩
  | 25 => ⟨S1x9605, .i1⟩
  | 26 => ⟨S1x9605, .i1⟩
  | 27 => ⟨S1024x9605, .i1⟩
  | 28 => ⟨S1024x9605, .i1⟩
  | 29 => ⟨S1024x9605, .i1⟩
  | 30 => ⟨S1024x9605, .i1⟩
  | 31 => ⟨S1024x9605, .i1⟩
  | 32 => ⟨S_, .f32⟩
  | 33 => ⟨S1024x9605, .f32⟩
  | 34 => ⟨S1024x9605, .i1⟩
  | 35 => ⟨S1024x9605, .f32⟩
  | 36 => ⟨S_, .f32⟩
  | 37 => ⟨S1024x9605, .f32⟩
  | 38 => ⟨S1024x9605, .f32⟩
  | 39 => ⟨S1024x9605, .i1⟩
  | 40 => ⟨S_, .f32⟩
  | 41 => ⟨S_, .f32⟩
  | 42 => ⟨S1024x9605, .f32⟩
  | 43 => ⟨S1024x9605, .f32⟩
  | 44 => ⟨S1024x9605, .f32⟩
  | 45 => ⟨S1024x9605, .f32⟩
  | 46 => ⟨S_, .f32⟩
  | 47 => ⟨S1024x9605, .f32⟩
  | 48 => ⟨S1024x9605, .f32⟩
  | 49 => ⟨S1024x9605, .f32⟩
  | 50 => ⟨S1024x9605, .f32⟩
  | 51 => ⟨S_, .f32⟩
  | 52 => ⟨S1024x9605, .f32⟩
  | 53 => ⟨S1024x9605, .f32⟩
  | 54 => ⟨S_, .f32⟩
  | 55 => ⟨S1024x9605, .f32⟩
  | 56 => ⟨S1024x9605, .f32⟩
  | 57 => ⟨S_, .f32⟩
  | 58 => ⟨S1024x9605, .f32⟩
  | 59 => ⟨S1024x9605, .f32⟩
  | 60 => ⟨S1024x9605, .f32⟩
  | 61 => ⟨S_, .f32⟩
  | 62 => ⟨S1024x9605, .f32⟩
  | 63 => ⟨S1024x9605, .f32⟩
  | 64 => ⟨S1024x9605, .f32⟩
  | 65 => ⟨S1024x9605, .f32⟩
  | 66 => ⟨S_, .f32⟩
  | 67 => ⟨S_, .f32⟩
  | 68 => ⟨S_, .f32⟩
  | _ => ⟨S1024x9605, .f32⟩

abbrev hbmTy (i : Nat) : BufTy := match i / 128 with
  | 0 => hbmTy0_0 i
  | 1 => hbmTy0_1 i
  | _ => ⟨S1024x9605, .f32⟩

abbrev bufTy : (tb : Table) → Fin (tcTables nBuf tb) → BufTy
  | .hbm, ⟨i, _⟩ => hbmTy i
  | _, _ => ⟨S1024x9605, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_6 : Ref sig .tc := ⟨.hbm, 28, rfl⟩
abbrev main_c_7 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c_8 : Ref sig .tc := ⟨.hbm, 33, rfl⟩
abbrev main_call1_v0 : Ref sig .tc := ⟨.hbm, 34, rfl⟩
abbrev main_v20 : Ref sig .tc := ⟨.hbm, 35, rfl⟩
abbrev main_c_9 : Ref sig .tc := ⟨.hbm, 36, rfl⟩
abbrev main_call2_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩
abbrev main_cst_12 : Ref sig .tc := ⟨.hbm, 53, rfl⟩
abbrev main_v33 : Ref sig .tc := ⟨.hbm, 54, rfl⟩
abbrev main_v34 : Ref sig .tc := ⟨.hbm, 55, rfl⟩
abbrev main_cst_13 : Ref sig .tc := ⟨.hbm, 56, rfl⟩
abbrev main_v35 : Ref sig .tc := ⟨.hbm, 57, rfl⟩
abbrev main_v36 : Ref sig .tc := ⟨.hbm, 58, rfl⟩
abbrev main_cst_14 : Ref sig .tc := ⟨.hbm, 59, rfl⟩
abbrev main_call3_v0 : Ref sig .tc := ⟨.hbm, 60, rfl⟩
abbrev main_call3_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_15 : Ref sig .tc := ⟨.hbm, 65, rfl⟩
abbrev main_v40 : Ref sig .tc := ⟨.hbm, 66, rfl⟩
abbrev main_v41 : Ref sig .tc := ⟨.hbm, 67, rfl⟩
abbrev main_cst_16 : Ref sig .tc := ⟨.hbm, 68, rfl⟩
abbrev main_call4_v0 : Ref sig .tc := ⟨.hbm, 69, rfl⟩
abbrev main_call4_v1 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_17 : Ref sig .tc := ⟨.hbm, 76, rfl⟩
abbrev main_v47 : Ref sig .tc := ⟨.hbm, 77, rfl⟩
abbrev main_cst_18 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_19 : Ref sig .tc := ⟨.hbm, 82, rfl⟩
abbrev main_v51 : Ref sig .tc := ⟨.hbm, 83, rfl⟩
abbrev main_cst_20 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_21 : Ref sig .tc := ⟨.hbm, 88, rfl⟩
abbrev main_v55 : Ref sig .tc := ⟨.hbm, 89, rfl⟩
abbrev main_cst_22 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_values : Ref sig .tc := ⟨.hbm, 96, rfl⟩
abbrev main_indices : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_23 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_24 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_25 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_26 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_27 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_28 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c_29 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_30 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_31 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_32 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_33 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_34 : Ref sig .tc := ⟨.hbm, 168, rfl⟩
abbrev main_call6_v0 : Ref sig .tc := ⟨.hbm, 169, rfl⟩
abbrev main_call6_v1 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_35 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_36 : Ref sig .tc := ⟨.hbm, 179, rfl⟩
abbrev main_v127 : Ref sig .tc := ⟨.hbm, 180, rfl⟩
abbrev main_v128 : Ref sig .tc := ⟨.hbm, 181, rfl⟩
abbrev main_cst_37 : Ref sig .tc := ⟨.hbm, 182, rfl⟩
abbrev main_v129 : Ref sig .tc := ⟨.hbm, 183, rfl⟩
abbrev main_v130 : Ref sig .tc := ⟨.hbm, 184, rfl⟩
abbrev main_cst_38 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_39 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_40 : Ref sig .tc := ⟨.hbm, 194, rfl⟩
abbrev main_v138 : Ref sig .tc := ⟨.hbm, 195, rfl⟩
abbrev main_v139 : Ref sig .tc := ⟨.hbm, 196, rfl⟩

abbrev nD : Nat := 1
abbrev τ : Topo := Topo.v7x

variable {F : FTy → Type} [FloatOps F]
-- ==== Proof.Rounds.lean ====
module

public import proofs.«01_k».proof.Proof.Gen.KernelIdeal.Frame
public import Idealize.ShloMosaic.Lib.Pipeline.Value
public import Idealize.ShloMosaic.Lib.Tactic

/-!
# What one block of 64 rows adds to the running total

The kernel finds the ten largest scores of every row by ten rounds.  Each round takes the maximum
of the row, the first column attaining it, reads the label and the weighted loss there, adds a
correction, and overwrites the column by -1.  The rounds are written out one after another; here
they are ten instances of the same functions.
-/

@[expose] public section

noncomputable section

namespace Cert.KernelIdeal.Value

open Cert.KernelIdeal Cert.KernelIdeal.Gen
open Idealize.ShloMosaic Idealize.ShloMosaic.TcCoe Idealize.SL.Sem

variable {F : FTy → Type} [FloatOps F]

/-- The column number of every position of the block. -/
def cols : IVec S64x9605 32 := iota .tc S64x9605 32 [1] iota_S64x9605_d1_w32

/-- The largest score of each row. -/
def peak (w : FVec F S64x9605 .f32) : FVec F S64 .f32 :=
  multiReduction .maximumf [1] S64 w 0xFF800000#32 reduces_S64x9605_S64 (.inl rfl) rfl

/-- The column numbers where a row attains its largest score, and a large number elsewhere. -/
def placesAt (w : FVec F S64x9605 .f32) : IVec S64x9605 32 :=
  select (cmpf .oeq w (broadcastTo S64x9605 (shapeCast S64x1 (peak w) shapeCasts_S64_S64x1)
    broadcasts_S64x1_S64x9605)) cols (broadcast S64x9605 1073741824#32)

/-- The first column where each row attains its largest score. -/
def place (w : FVec F S64x9605 .f32) : IVec S64 32 :=
  multiReductionI .minsi [1] S64 (placesAt w) 2147483647#32 reduces_S64x9605_S64 rfl

/-- The positions of the block that are their row's `place`. -/
def spot (w : FVec F S64x9605 .f32) : IVec S64x9605 1 :=
  cmpi .eq cols (broadcastTo S64x9605 (shapeCast S64x1 (place w) shapeCasts_S64_S64x1)
    broadcasts_S64x1_S64x9605)

/-- The entry of `v` at each row's `place`. -/
def pluck (v w : FVec F S64x9605 .f32) : FVec F S64 .f32 :=
  multiReduction .add [1] S64
    (select (spot w) v (broadcast S64x9605 (Scalar.ofBits .f32 0x00000000#32)))
    0x00000000#32 reduces_S64x9605_S64 (.inl rfl) rfl

/-- The scores with each row's `place` overwritten by -1. -/
def strike (w : FVec F S64x9605 .f32) : FVec F S64x9605 .f32 :=
  select (spot w) (broadcast S64x9605 (Scalar.ofBits .f32 0xBF800000#32)) w

/-- The factor of the entry at each row's `place`. -/
def scale (y w : FVec F S64x9605 .f32) : FVec F S64 .f32 :=
  mulf
    (select (cmpf .oeq (pluck y w) (broadcast S64 (Scalar.ofBits .f32 0x00000000#32))) (peak w)
      (minimumf
        (addf (subf (broadcast S64 (Scalar.ofBits .f32 0x3F800000#32)) (peak w))
          (broadcast S64 (Scalar.ofBits .f32 0x3D4CCCCD#32)))
        (broadcast S64 (Scalar.ofBits .f32 0x3F800000#32))))
    (broadcast S64 (Scalar.ofBits .f32 0x40000000#32))

/-- The column `p` is in the first range. -/
def inFirst (p : IVec S64 32) : IVec S64 1 := cmpi .slt p (broadcast S64 30#32)

/-- The column `p` is in the second range. -/
def inSecond (p : IVec S64 32) : IVec S64 1 :=
  andi (cmpi .sge p (broadcast S64 100#32)) (cmpi .slt p (broadcast S64 170#32))

/-- The column `p` is in the third range. -/
def inThird (p : IVec S64 32) : IVec S64 1 :=
  andi (cmpi .sge p (broadcast S64 300#32)) (cmpi .slt p (broadcast S64 370#32))

/-- The column `p` is in none of the ranges. -/
def inNone (p : IVec S64 32) : IVec S64 1 :=
  xori (ori (ori (inFirst p) (inSecond p)) (inThird p)) (constantI S64 1 1#1)

/-- The column `p` is of a kind its row has labels of. -/
def eligible (c r d g : IVec S64 1) (p : IVec S64 32) : IVec S64 1 :=
  ori (ori (ori (andi (inFirst p) c) (andi (inSecond p) r)) (andi (inThird p) d))
    (andi (inNone p) g)

/-- What one round adds for each row. -/
def term (y lw : FVec F S64x9605 .f32) (c r d g : IVec S64 1) (w : FVec F S64x9605 .f32) :
    FVec F S64 .f32 :=
  select (eligible c r d g (place w))
    (mulf (pluck lw w) (subf (scale y w) (broadcast S64 (Scalar.ofBits .f32 0x3F800000#32))))
    (broadcast S64 (Scalar.ofBits .f32 0x00000000#32))

/-- The sum of one number per row. -/
def tally (v : FVec F S64 .f32) : F .f32 :=
  extractAt ![0, 0]
    (shapeCast S1x1
      (multiReduction .add [1] S1 (shapeCast S1x64 v shapeCasts_S64_S1x64) 0x00000000#32
        reduces_S1x64_S1 (.inl rfl) rfl) shapeCasts_S1_S1x1) inpos_S1x1_p0_0

/-- The scores after `k` rounds. -/
def works (w : FVec F S64x9605 .f32) : Nat → FVec F S64x9605 .f32
  | 0 => w
  | k + 1 => strike (works w k)

/-- The corrections of the first `k` rounds. -/
def corrections (y lw : FVec F S64x9605 .f32) (c r d g : IVec S64 1) (w : FVec F S64x9605 .f32) :
    Nat → F .f32
  | 0 => Scalar.ofBits .f32 0x00000000#32
  | k + 1 => Scalar.addf (corrections y lw c r d g w k) (tally (term y lw c r d g (works w k)))

/-- What one block leaves in the running total `o`. -/
def blockOut (x : Vec F S64x9605 .f32) (y : Vec F S64x9605 .i32) (o : Vec F S1x1 .f32) :
    FVec F S1x1 .f32 :=
  addf (shapeCast S1x1 o shapeCasts_S1x1_S1x1)
    (broadcast S1x1 (Scalar.addf (k0_pay6 x y)
      (corrections (k0_pay3 y) (k0_pay5 x y) (k0_pay9 (k0_pay7 y) (k0_pay8 (F := F)))
        (k0_pay10 (k0_pay3 (F := F) y)) (k0_pay11 (k0_pay3 (F := F) y))
        (k0_pay12 (k0_pay3 y) (k0_pay7 y) (k0_pay8 (F := F))) (k0_pay4 x) 10)))

section rounds

variable (y lw : FVec F S64x9605 .f32) (c r d g : IVec S64 1) (w : FVec F S64x9605 .f32)
  (acc : F .f32)

theorem next1 : k0_pay17 w = strike w := rfl
theorem next2 : k0_pay24 w (k0_pay22 cols w) = strike w := rfl
theorem next3 : k0_pay31 cols w = strike w := rfl
theorem next4 : k0_pay42 cols w = strike w := rfl
theorem next5 : k0_pay50 cols w (k0_pay46 cols w) = strike w := rfl
theorem next6 : k0_pay62 cols w = strike w := rfl
theorem next7 : k0_pay71 w (k0_pay68 cols w) = strike w := rfl
theorem next8 : k0_pay77 cols w = strike w := rfl
theorem next9 : k0_pay89 cols w = strike w := rfl

theorem sum1 : k0_pay19 c r d g (k0_pay14 w) (k0_pay16 w lw) (k0_pay18 y w)
    = Scalar.addf (Scalar.ofBits .f32 0x00000000#32) (tally (term y lw c r d g w)) := rfl
theorem sum2 : k0_pay26 acc (k0_pay25 lw c r d g (k0_pay20 w) (k0_pay21 cols w) (k0_pay22 cols w)
    (k0_pay23 y cols w)) = Scalar.addf acc (tally (term y lw c r d g w)) := rfl
theorem sum3 : k0_pay36 c r d g acc (k0_pay28 cols w) (k0_pay30 lw cols w) (k0_pay32 y cols w)
    (k0_pay33 cols w) (k0_pay34 cols w) (k0_pay35 cols w)
    = Scalar.addf acc (tally (term y lw c r d g w)) := rfl
theorem sum4 : k0_pay44 c r d g acc (k0_pay37 w) (k0_pay38 cols w) (k0_pay40 y cols w)
    (k0_pay41 lw cols w) (k0_pay43 w) = Scalar.addf acc (tally (term y lw c r d g w)) := rfl
theorem sum5 : k0_pay57 acc (k0_pay49 lw cols (k0_pay46 cols w))
    (k0_pay51 y cols (k0_pay45 w) (k0_pay46 cols w)) (k0_pay55 c r d (k0_pay46 cols w))
    (k0_pay56 g (k0_pay46 cols w)) = Scalar.addf acc (tally (term y lw c r d g w)) := rfl
theorem sum6 : k0_pay65 c r d g acc (k0_pay59 cols w) (k0_pay61 lw cols w) (k0_pay63 y cols w)
    (k0_pay64 cols w) 100#32 = Scalar.addf acc (tally (term y lw c r d g w)) := rfl
theorem sum7 : k0_pay72 c r d g acc (k0_pay66 w) (k0_pay67 cols w) (k0_pay69 y cols w)
    (k0_pay70 lw cols w) = Scalar.addf acc (tally (term y lw c r d g w)) := rfl
theorem sum8 : k0_pay83 c r d g acc (k0_pay76 lw cols w) (k0_pay78 y cols w) (k0_pay79 cols w)
    (k0_pay80 cols w) (k0_pay81 cols w) (k0_pay82 cols w)
    = Scalar.addf acc (tally (term y lw c r d g w)) := rfl
theorem sum9 : k0_pay92 c r d g acc (k0_pay84 w) (k0_pay85 cols w) (k0_pay87 y cols w)
    (k0_pay88 lw cols w) (k0_pay90 w) (k0_pay91 (F := F))
    = Scalar.addf acc (tally (term y lw c r d g w)) := rfl
theorem sum10 (total : F .f32) (o : Vec F S1x1 .f32) :
    k0_pay2 total acc (k0_pay96 y lw c r d g (k0_pay93 w) (k0_pay94 cols w) (k0_pay95 cols w)
      (Scalar.ofBits .f32 0x00000000#32)) o
    = addf (shapeCast S1x1 o shapeCasts_S1x1_S1x1)
        (broadcast S1x1 (Scalar.addf total (Scalar.addf acc (tally (term y lw c r d g w))))) := rfl

end rounds

end Cert.KernelIdeal.Value

end
-- ==== Proof.KernelRun.lean ====
module

public import proofs.«01_k».proof.Proof.Rounds
public import Idealize.ShloMosaic.Lib.StableHlo.Run
public import Idealize.ShloMosaic.Lib.Claim

/-!
# What a run of the grid stores
-/

@[expose] public section

noncomputable section

namespace Cert.KernelIdeal.Value

open Cert.KernelIdeal Cert.KernelIdeal.Gen
open Idealize.ShloMosaic Idealize.ShloMosaic.TcCoe Idealize.SL.Sem
open Idealize.ShloMosaic.Pipeline (Dat)

variable {F : FTy → Type} [FloatOps F]

theorem origin : (![0, 0] : Fin 2 → Nat) = fun _ => 0 := funext fun a => by fin_cases a <;> rfl

/-- A grid step after the first stores the block's total on top of what the output held. -/
theorem out_B (c : Dev nD) (i : grid0.Coords) (a1 : Memref sig .tc .vmem S64x9605 .f32) (h1 : a1.IsWhole)
    (a2 : Memref sig .tc .vmem S64x9605 .i32) (h2 : a2.IsWhole) (a3 : Memref sig .tc .vmem S1x1 .f32) (h3 : a3.IsWhole)
    (hc : ¬cond0_0 i) (x : Vec F S64x9605 .f32) (y : Vec F S64x9605 .i32) (o : Vec F S1x1 .f32) :
    out0_B_2 c i a1 h1 a2 h2 a3 h3 hc x y o = blockOut x y o := by
  unfold out0_B_2
  rw [View.read_writes_eq_canon _ _ _ (cover0_B_2 c i a1 h1 a2 h2 a3 h3 hc x y o)]
  unfold kernelRun0_B
  dsimp only
  rw [View.canon_unit_zero origin]
  simp only [View.readAt_eq_ld, h1.read_unread, h2.read_unread, h3.read_unread, View.ld_unit_zero (S := S64x9605) origin, View.ld_unit_zero (S := S1x1) origin]
  sl_unfold_words
  simp only [View.readAt_eq_ld, h1.read_unread, h2.read_unread, h3.read_unread, View.ld_unit_zero (S := S64x9605) origin, View.ld_unit_zero (S := S1x1) origin]
  have e : iota .tc S64x9605 32 [1] iota_S64x9605_d1_w32 = cols := rfl
  rw [e]
  simp only [next1, next2, next3, next4, next5, next6, next7, next8, next9, sum1, sum2, sum3, sum4, sum5, sum6, sum7, sum8, sum9]
  rw [show (FloatOps.ofBits FTy.f32 0#32 : F .f32) = Scalar.ofBits .f32 0x00000000#32 from rfl, sum10]
  rfl

/-- The first grid step clears the total and then stores its block's total. -/
theorem out_A (c : Dev nD) (i : grid0.Coords) (a1 : Memref sig .tc .vmem S64x9605 .f32) (h1 : a1.IsWhole)
    (a2 : Memref sig .tc .vmem S64x9605 .i32) (h2 : a2.IsWhole) (a3 : Memref sig .tc .vmem S1x1 .f32) (h3 : a3.IsWhole)
    (hc : cond0_0 i) (x : Vec F S64x9605 .f32) (y : Vec F S64x9605 .i32) :
    out0_A_2 c i a1 h1 a2 h2 a3 h3 hc x y = blockOut x y k0_pay1 := by
  unfold out0_A_2
  rw [View.read_writes_eq_canon _ _ _ (cover0_A_2 c i a1 h1 a2 h2 a3 h3 hc x y)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S64x9605) origin]
  have e : iota .tc S64x9605 32 [1] iota_S64x9605_d1_w32 = cols := rfl
  rw [e]
  simp only [next1, next2, next3, next4, next5, next6, next7, next8, next9, sum1, sum2, sum3, sum4, sum5, sum6, sum7, sum8, sum9]
  rw [show (FloatOps.ofBits FTy.f32 0#32 : F .f32) = Scalar.ofBits .f32 0x00000000#32 from rfl, sum10]
  rfl

variable (m : (ℓ : Loc nD τ sig) → Buf (Elt F) ℓ) (ρ : Dev nD → PrngReg)

/-- The running total after each grid step. -/
def chain (c : Dev nD) : (n : ℕ) → n < cfg0.N → Vec F S1x1 .f32
  | 0, h => blockOut (iblk m c 0 ⟨0, h⟩) (iblk m c 1 ⟨0, h⟩) k0_pay1
  | n + 1, h => blockOut (iblk m c 0 ⟨n + 1, h⟩) (iblk m c 1 ⟨n + 1, h⟩) (chain c n (Nat.lt_of_succ_lt h))

/-- The output's buffer holds the running total after every grid step. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 16 := N_0
    have hB : ¬(⟨n + 1, h⟩ : Fin cfg0.N).val % 16 = 0 := by dsimp only; omega
    rw [outsAt0_B m c ⟨n + 1, h⟩ hB, out_B]
    show blockOut _ _ (outsAt0 m c n _) = blockOut _ _ (chain m c n _)
    rw [outsAt_eq c n]

/-- The total after the last grid step, as contents of the output array. -/
abbrev total (c : Dev nD) : Buf (Elt F) ((c : Thread nD τ).loc main_call0_v0) :=
  chain m c 15 (by rw [show cfg0.N = 16 from N_0]; decide)

/-- The one write-back carries the total. -/
theorem flushed_eq (c : Dev nD) (t : Fin cfg0.N) (hf : (cfg0.win 2).flush t = true) :
    (dats m 0 c).flushed 2 t = ((cfg0.win 2).blk t).view.read (Elt F) (total m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq]
  have hz' : (fun a => win0_2.index t0_15 a * main_call0_v0.ty.shape.size a) = fun _ => 0 := funext fun a => by fin_cases a <;> decide
  exact (Memref.read_access_unit_zero (Elt F) main_call0_v0 hz' (fun a => by rw [congrFun hz' a]; simp) (total m c)).symm

/-- The output array ends at the total. -/
theorem final_o (c : Dev nD) : (dats m 0 c).arrAt 2 cfg0.N = total m c :=
  (dats m 0 c).arrAt_eq_of_cover 2 (total m c) (flushed_eq m c) fun i =>
    ⟨t0_15, (flush0_2 t0_15).mpr rfl, by
      show i ∈ ((View.whole main_call0_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- The host lines after the kernel negate the total. -/
theorem tail_eq (c : Dev nD) :
    Pipeline.afterTail₀ cfgs (dats m) 0 (V0 m) [hostOps1] c main_v0
      = Host.negf (shapeCast S_ (total m c) shapeCasts_S1x1_S_) := by
  unfold Pipeline.afterTail₀
  rw [← final_o m c]
  simp only [List.flatten_cons, List.flatten_nil, List.append_nil]
  after_results
  exact congrArg (fun v : Vec F S1x1 .f32 => Host.negf (shapeCast S_ v shapeCasts_S1x1_S_))
    (Pipeline.withArrays_arr (cfgs 0).spec (by decide) c (V0 m c)
      (fun w => (dats m 0 c).arrAt w (cfgs 0).N) 2)

/-- The run: the result is the negated total, the arguments are unchanged and every counter is zero. -/
theorem run : θ_run defs (onTc (τ := τ) (main (F := F))) ⟨m, fun _ => 0, ρ⟩ fun r => (∀ c : Dev nD,
      r.2.mem ((c : Thread nD τ).loc main_v0) = Host.negf (shapeCast S_ (total m c) shapeCasts_S1x1_S_)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).2 main_v0 (by decide)).trans (tail_eq m c), h.2 c⟩)
    (θ_run_and (run_main m ρ) (unchanged m ρ))

end Cert.KernelIdeal.Value

end
-- ==== Proof.Ranking.lean ====
/- The order in which a row's entries are picked: the greater entry first and, of two equal entries, the one with
   the smaller index. A stable descending sort lists the row in that order, and so do repeated rounds that take the
   greatest entry (its first occurrence) and overwrite it with −1. Nothing here mentions a program. -/
module

public import Idealize.ShloMosaic.Lib.SortFacts
public import Mathlib.Data.EReal.Operations
public import Mathlib.Data.Finset.Max
public import Mathlib.Data.Fintype.EquivFin
public import Mathlib.Order.Fin.Basic
public import Mathlib.Order.Interval.Finset.Fin
public import Mathlib.Algebra.BigOperators.Group.Finset.Basic

@[expose] public section

noncomputable section

namespace Cert.Loss

open Idealize.ShloMosaic

variable {n : ℕ}

/-- `j` is picked before `i`: its entry is greater, or it is equal and `j` is the smaller index. -/
def Ahead (s : Fin n → EReal) (j i : Fin n) : Prop := s i < s j ∨ (s j = s i ∧ j < i)

open Classical in
/-- `Ahead` as a test. -/
def ahead (s : Fin n → EReal) (j i : Fin n) : Bool := decide (Ahead s j i)

theorem ahead_iff (s : Fin n → EReal) (j i : Fin n) : ahead s j i = true ↔ Ahead s j i := by
  simp [ahead]

theorem ahead_false (s : Fin n → EReal) (j i : Fin n) : ahead s j i = false ↔ ¬ Ahead s j i := by
  simp [ahead]

theorem Ahead.asymm {s : Fin n → EReal} {a b : Fin n} (h : Ahead s a b) : ¬ Ahead s b a := by
  rintro (h' | ⟨e, h'⟩)
  · rcases h with h | ⟨e, _⟩
    · exact lt_asymm h h'
    · exact (ne_of_lt h') e
  · rcases h with h | ⟨_, h⟩
    · exact (ne_of_lt h) e
    · exact lt_asymm h h'

theorem ahead_total (s : Fin n → EReal) {a b : Fin n} (hab : a ≠ b) : Ahead s a b ∨ Ahead s b a := by
  rcases lt_trichotomy (s a) (s b) with h | h | h
  · exact .inr (.inl h)
  · rcases lt_or_gt_of_ne hab with h' | h'
    · exact .inl (.inr ⟨h, h'⟩)
    · exact .inr (.inr ⟨h.symm, h'⟩)
  · exact .inl (.inl h)

/-- "Not picked before" is transitive. -/
theorem not_ahead_trans (s : Fin n → EReal) {a b c : Fin n} (h₁ : ¬ Ahead s a b) (h₂ : ¬ Ahead s b c) :
    ¬ Ahead s a c := by
  unfold Ahead at *
  push Not at *
  obtain ⟨h₁, h₁'⟩ := h₁
  obtain ⟨h₂, h₂'⟩ := h₂
  refine ⟨h₁.trans h₂, fun e => ?_⟩
  have hb : s b = s c := le_antisymm h₂ (e ▸ h₁)
  have ha : s a = s b := e.trans hb.symm
  exact (h₂' hb).trans (h₁' ha)

/-- The index picked in round `k`. -/
def pick (s : Fin n → EReal) (k : Fin n) : Fin n := sortedFrom (ahead s) k

theorem pick_injective (s : Fin n → EReal) : Function.Injective (pick s) := sortedFrom_injective _

theorem pick_surjective (s : Fin n → EReal) : Function.Surjective (pick s) := sortedFrom_surjective _

/-- An earlier round's index is picked before a later round's. -/
theorem ahead_pick (s : Fin n → EReal) {i j : Fin n} (hij : i < j) : Ahead s (pick s i) (pick s j) := by
  have h := sortedFrom_noInversion (ahead s) (ahead s)
    (fun a b hab => by rw [ahead_iff] at hab; rw [ahead_false]; exact hab.asymm)
    (fun _ _ h => h)
    (fun a b c hab hbc => by rw [ahead_false] at *; exact not_ahead_trans s hab hbc) i j hij
  rw [ahead_false] at h
  exact (ahead_total s fun e => (ne_of_lt hij) (pick_injective s e)).resolve_right h

/-- A stable sort by "greater entry first" picks in this order: it meets the entries with the smaller index first. -/
theorem stableSort_greater (s : Fin n → EReal) (B : Fin n → Fin n → Bool) (hB : ∀ a b, B a b = true ↔ s b < s a) :
    ∀ l : List (Fin n), l.Pairwise (· < ·) → stableSort B l = stableSort (ahead s) l
  | [], _ => rfl
  | a :: l, h => by
    rw [List.pairwise_cons] at h
    unfold stableSort
    rw [stableSort_greater s B hB l h.2]
    refine insertBefore_congr B (ahead s) a _ fun b hb => ?_
    have hab : a < b := h.1 b ((perm_stableSort (ahead s) l).mem_iff.mp hb)
    rw [Bool.eq_iff_iff, hB, ahead_iff]
    unfold Ahead
    constructor
    · exact fun h => .inl h
    · rintro (h | ⟨_, h⟩)
      · exact h
      · exact absurd hab (lt_asymm h)

/-- Position `k` of that sort holds the index picked in round `k`. -/
theorem sortedFrom_greater (s : Fin n → EReal) (B : Fin n → Fin n → Bool) (hB : ∀ a b, B a b = true ↔ s b < s a)
    (k : Fin n) : sortedFrom B k = pick s k := by
  have h : sortPositions n B = sortPositions n (ahead s) :=
    stableSort_greater s B hB _ (List.pairwise_lt_finRange n)
  unfold pick sortedFrom
  rw [List.get_of_eq h]
  rfl

/-- Index `i` was picked in one of the first `r` rounds. -/
def Picked (s : Fin n → EReal) (r : ℕ) (i : Fin n) : Prop := ∃ k : Fin n, k.val < r ∧ pick s k = i

instance (s : Fin n → EReal) (r : ℕ) (i : Fin n) : Decidable (Picked s r i) := Classical.propDecidable _

theorem picked_pick (s : Fin n → EReal) (r : ℕ) (k : Fin n) : Picked s r (pick s k) ↔ k.val < r :=
  ⟨fun ⟨_, h, e⟩ => pick_injective s e ▸ h, fun h => ⟨k, h, rfl⟩⟩

theorem picked_zero (s : Fin n → EReal) (i : Fin n) : ¬ Picked s 0 i := fun ⟨_, h, _⟩ => Nat.not_lt_zero _ h

theorem picked_succ (s : Fin n → EReal) (r : ℕ) (hr : r < n) (i : Fin n) :
    Picked s (r + 1) i ↔ i = pick s ⟨r, hr⟩ ∨ Picked s r i := by
  constructor
  · rintro ⟨k, hk, rfl⟩
    rcases Nat.lt_succ_iff_lt_or_eq.mp hk with h | h
    · exact .inr ⟨k, h, rfl⟩
    · exact .inl (congrArg _ (Fin.ext h))
  · rintro (rfl | ⟨k, hk, rfl⟩)
    · exact ⟨_, Nat.lt_succ_self r, rfl⟩
    · exact ⟨k, Nat.lt_succ_of_lt hk, rfl⟩

/-- The row after `r` rounds: the picked entries overwritten with −1. -/
def work (s : Fin n → EReal) (r : ℕ) (i : Fin n) : EReal := if Picked s r i then -1 else s i

theorem work_zero (s : Fin n → EReal) : work s 0 = s := by
  funext i
  rw [work, if_neg (picked_zero s i)]

theorem work_pick_self (s : Fin n → EReal) (r : ℕ) (hr : r < n) : work s r (pick s ⟨r, hr⟩) = s (pick s ⟨r, hr⟩) := by
  rw [work, if_neg]
  rw [picked_pick]
  exact lt_irrefl r

theorem work_succ (s : Fin n → EReal) (r : ℕ) (hr : r < n) (i : Fin n) :
    work s (r + 1) i = if i = pick s ⟨r, hr⟩ then -1 else work s r i := by
  unfold work
  by_cases h : i = pick s ⟨r, hr⟩
  · rw [if_pos h, if_pos ((picked_succ s r hr i).mpr (.inl h))]
  · rw [if_neg h]
    refine if_congr ?_ rfl rfl
    rw [picked_succ s r hr]
    exact or_iff_right h

theorem neg_one_lt_zero : (-1 : EReal) < 0 := by
  have h : ((-1 : ℝ) : EReal) < ((0 : ℝ) : EReal) := EReal.coe_lt_coe_iff.mpr (by norm_num)
  rwa [EReal.coe_neg, EReal.coe_one, EReal.coe_zero] at h

/-- On a row of non-negative entries the greatest entry after `r` rounds is the one picked in round `r`. -/
theorem work_le (s : Fin n → EReal) (hs : ∀ i, 0 ≤ s i) (r : ℕ) (hr : r < n) (i : Fin n) :
    work s r i ≤ s (pick s ⟨r, hr⟩) := by
  obtain ⟨k, rfl⟩ := pick_surjective s i
  simp only [work, picked_pick]
  split_ifs with h
  · exact (neg_one_lt_zero.trans_le (hs _)).le
  · rcases Nat.eq_or_lt_of_not_lt h with e | h
    · exact le_of_eq (congrArg s (congrArg _ (Fin.ext e)))
    · rcases ahead_pick s (i := ⟨r, hr⟩) (j := k) h with h | ⟨h, _⟩
      · exact h.le
      · exact h.ge

/-- … and the picked index is the first at which that greatest entry stands. -/
theorem pick_le (s : Fin n → EReal) (hs : ∀ i, 0 ≤ s i) (r : ℕ) (hr : r < n) (i : Fin n)
    (hi : work s r i = s (pick s ⟨r, hr⟩)) : pick s ⟨r, hr⟩ ≤ i := by
  obtain ⟨k, rfl⟩ := pick_surjective s i
  simp only [work, picked_pick] at hi
  split_ifs at hi with h
  · exact absurd (hi ▸ hs _) (not_le_of_gt neg_one_lt_zero)
  · rcases Nat.eq_or_lt_of_not_lt h with e | h
    · exact le_of_eq (congrArg _ (Fin.ext e.symm))
    · rcases ahead_pick s (i := ⟨r, hr⟩) (j := k) h with h | ⟨_, h⟩
      · exact absurd hi (ne_of_lt h)
      · exact h.le

/-- A sum over the first `r` rounds is the sum over the whole row of the terms at the picked indices. -/
theorem sum_picked (s : Fin n → EReal) (r : ℕ) (hr : r ≤ n) (f : Fin n → EReal) :
    ∑ k : Fin r, f (pick s (k.castLE hr)) = ∑ i, if Picked s r i then f i else 0 := by
  rw [← Finset.sum_filter]
  have h : (Finset.univ.filter fun i => Picked s r i) = Finset.univ.image fun k : Fin r => pick s (k.castLE hr) := by
    ext i
    simp only [Finset.mem_filter, Finset.mem_univ, true_and, Finset.mem_image]
    exact ⟨fun ⟨k, hk, e⟩ => ⟨⟨k.val, hk⟩, e⟩, fun ⟨k, e⟩ => ⟨_, k.isLt, e⟩⟩
  rw [h, Finset.sum_image]
  intro a _ b _ hab
  exact Fin.castLE_injective hr (pick_injective s hab)

end Cert.Loss

end
-- ==== Proof.Entry.lean ====
/- One entry of the loss: for a label `y` that is 0 or 1 and the sigmoid `s` of a logit, the weighted log-likelihood
   `weighted y s`, the factor by which a picked entry is multiplied, and the weight written as a power, which agrees
   with the weight written as products. Every value is a real number. Nothing here mentions a program. -/
module

public import Idealize.ShloMosaic.PureOps.Ideal.Laws
public import Idealize.ShloMosaic.Lib.IdealHost

@[expose] public section

noncomputable section

namespace Cert.Loss

open Idealize.ShloMosaic

/-- The shift of the negative probability: the single-precision number nearest 0.05. -/
def shift : EReal := Ideal.ofBits .f32 0x3D4CCCCD#32

/-- The floor under a logarithm's argument: the single-precision number nearest 1e-8. -/
def floorEps : EReal := Ideal.ofBits .f32 0x322BCC77#32

/-- The factor 2. -/
def two : EReal := Ideal.ofBits .f32 0x40000000#32

/-- The exponent 4. -/
def four : EReal := Ideal.ofBits .f32 0x40800000#32

/-- The shifted negative probability. -/
def other (s : EReal) : EReal := min ((1 - s) + shift) 1

/-- The log-likelihood of the label. -/
def likelihood (y s : EReal) : EReal :=
  y * Ideal.log (max s floorEps) + (1 - y) * Ideal.log (max (other s) floorEps)

open Classical in
/-- One minus the probability given to the label. -/
def gap (y s : EReal) : EReal := if y = 1 then 1 - s else 1 - other s

open Classical in
/-- The focal weight: the gap itself for a positive label, its fourth power for a negative one. -/
def focus (y s : EReal) : EReal := if y = 1 then gap y s else (gap y s * gap y s) * (gap y s * gap y s)

/-- The weighted log-likelihood. -/
def weighted (y s : EReal) : EReal := likelihood y s * focus y s

open Classical in
/-- What a picked entry is multiplied by. -/
def factor (y s : EReal) : EReal := (if y = 0 then s else other s) * two

/-- The focal weight, written as a power. -/
def power (y s : EReal) : EReal := Ideal.pow (1 - (s * y + other s * (1 - y))) (1 * y + four * (1 - y))

theorem shift_real : ∃ r : ℝ, shift = (r : EReal) := by
  unfold shift
  simp [Ideal.ofBits, Ideal.ieee, -EReal.coe_mul]

theorem floorEps_real : ∃ r : ℝ, 0 < r ∧ floorEps = (r : EReal) := by
  unfold floorEps
  simp [Ideal.ofBits, Ideal.ieee, -EReal.coe_mul]

theorem two_eq : two = ((2 : ℝ) : EReal) := by
  unfold two
  simp [Ideal.ofBits, Ideal.ieee, -EReal.coe_mul]
  norm_num

theorem four_eq : four = ((4 : ℝ) : EReal) := by
  unfold four
  simp [Ideal.ofBits, Ideal.ieee, -EReal.coe_mul]
  norm_num

/-- The sigmoid of an extended real is a non-negative real number. -/
theorem logistic_real (x : EReal) : ∃ r : ℝ, 0 ≤ r ∧ Ideal.logistic x = (r : EReal) := by
  induction x using EReal.rec with
  | bot =>
    have h : Ideal.exp ⊤ = ⊤ := rfl
    have h1 : (1 : EReal) + ⊤ = ⊤ := rfl
    exact ⟨0, le_refl _, by simp [Ideal.logistic, h, h1, Ideal.div]⟩
  | top =>
    have h : Ideal.exp ⊥ = 0 := rfl
    exact ⟨1, zero_le_one, by simp [Ideal.logistic, h, Ideal.div]⟩
  | coe r =>
    have hp : 0 < 1 + Real.exp (-r) := by positivity
    refine ⟨(1 + Real.exp (-r))⁻¹, by positivity, ?_⟩
    have h1 : (1 : EReal) + Ideal.exp (-(r : EReal)) = ((1 + Real.exp (-r) : ℝ) : EReal) := by
      rw [← EReal.coe_neg, EReal.coe_add, EReal.coe_one]
      rfl
    rw [Ideal.logistic, h1, Ideal.div, if_neg (by exact_mod_cast hp.ne'), one_mul, EReal.coe_inv]

/-- The logarithm above a positive floor is a real number. -/
theorem log_floor_real (r : ℝ) : ∃ l : ℝ, Ideal.log (max (r : EReal) floorEps) = (l : EReal) := by
  obtain ⟨e, he, h⟩ := floorEps_real
  refine ⟨Real.log (max r e), ?_⟩
  rw [h, ← EReal.coe_strictMono.monotone.map_max]
  exact if_neg (not_le.mpr (lt_max_of_lt_right he))

theorem other_real (r : ℝ) : ∃ o : ℝ, other (r : EReal) = (o : EReal) := by
  obtain ⟨a, h⟩ := shift_real
  refine ⟨min ((1 - r) + a) 1, ?_⟩
  rw [other, h]
  norm_cast

theorem one_sub_one : (1 : EReal) - 1 = 0 := by
  rw [← EReal.coe_one, ← EReal.coe_sub, sub_self, EReal.coe_zero]

theorem likelihood_real (y s : EReal) (hy : y = 0 ∨ y = 1) (hs : ∃ r : ℝ, s = (r : EReal)) :
    ∃ l : ℝ, likelihood y s = (l : EReal) := by
  obtain ⟨r, rfl⟩ := hs
  obtain ⟨o, ho⟩ := other_real r
  obtain ⟨a, ha⟩ := log_floor_real r
  obtain ⟨b, hb⟩ := log_floor_real o
  rw [likelihood, ho, ha, hb]
  rcases hy with rfl | rfl
  · exact ⟨b, by simp⟩
  · refine ⟨a, ?_⟩
    rw [one_sub_one]
    simp

/-- The weight as a power is the weight as products, a real number. -/
theorem power_eq (y s : EReal) (hy : y = 0 ∨ y = 1) (hs : ∃ r : ℝ, s = (r : EReal)) :
    ∃ w : ℝ, power y s = (w : EReal) ∧ focus y s = (w : EReal) := by
  obtain ⟨r, rfl⟩ := hs
  obtain ⟨o, ho⟩ := other_real r
  have h10 : (1 : EReal) - 0 = 1 := by simp
  rw [power, focus, gap, ho, four_eq]
  rcases hy with rfl | rfl
  · refine ⟨(1 - o) ^ 4, ?_, ?_⟩
    · rw [h10, mul_zero, mul_zero, zero_add, zero_add, mul_one, mul_one]
      have h : (1 : EReal) - (o : EReal) = ((1 - o : ℝ) : EReal) := by norm_cast
      rw [h]
      show ((Real.rpow (1 - o) 4 : ℝ) : EReal) = _
      congr 1
      show (1 - o) ^ (4 : ℝ) = (1 - o) ^ 4
      exact_mod_cast Real.rpow_natCast (1 - o) 4
    · simp only [zero_ne_one, if_false]
      have h : (1 : EReal) - (o : EReal) = ((1 - o : ℝ) : EReal) := by norm_cast
      rw [h]
      norm_cast
      ring_nf
  · refine ⟨1 - r, ?_, ?_⟩
    · rw [one_sub_one, mul_zero, mul_zero, add_zero, add_zero, mul_one, mul_one]
      have h : (1 : EReal) - (r : EReal) = ((1 - r : ℝ) : EReal) := by norm_cast
      rw [h]
      show ((Real.rpow (1 - r) 1 : ℝ) : EReal) = _
      congr 1
      exact Real.rpow_one _
    · simp only [if_true]
      norm_cast

theorem factor_real (y s : EReal) (hs : ∃ r : ℝ, s = (r : EReal)) : ∃ q : ℝ, factor y s = (q : EReal) := by
  obtain ⟨r, rfl⟩ := hs
  obtain ⟨o, ho⟩ := other_real r
  rw [factor, ho, two_eq]
  split_ifs
  · exact ⟨r * 2, by norm_cast⟩
  · exact ⟨o * 2, by norm_cast⟩

/-- Multiplying a marked entry by its factor before weighting adds `weighted · (factor − 1)` to the weighted entry. -/
theorem entry_eq (y s : EReal) (hy : y = 0 ∨ y = 1) (hs : ∃ r : ℝ, s = (r : EReal)) (P : Prop) [Decidable P] :
    likelihood y s * (if P then factor y s else 1) * power y s
      = weighted y s + if P then weighted y s * (factor y s - 1) else 0 := by
  obtain ⟨l, hl⟩ := likelihood_real y s hy hs
  obtain ⟨w, hw, hf⟩ := power_eq y s hy hs
  obtain ⟨q, hq⟩ := factor_real y s hs
  rw [weighted, hl, hw, hf, hq]
  split_ifs
  · norm_cast
    ring
  · simp

end Cert.Loss

end
-- ==== Proof.Row.lean ====
/- One row of the loss: which columns are eligible for a correction, the loss of an entry of the row, and how the maximum
   and the first column attaining it are read off the two folds that compute them. Nothing here mentions a program. -/
module

public import proofs.«01_k».proof.Proof.Ranking
public import proofs.«01_k».proof.Proof.Entry
public import Idealize.ShloMosaic.Lib.SortNet.Extract
public import Idealize.ShloMosaic.Lib.WordCmp

@[expose] public section

noncomputable section

namespace Cert.Loss

open Idealize.ShloMosaic

/-! ## The eligible columns -/

/-- A row with labels in the first, second and third column range as `C`, `R`, `D` say has column `i` eligible: `i` is in
    a range with labels, or in none while no range has labels. -/
def Eligible (C R D : Prop) (i : ℕ) : Prop :=
  (i < 30 ∧ C) ∨ ((100 ≤ i ∧ i < 170) ∧ R) ∨ ((300 ≤ i ∧ i < 370) ∧ D)
    ∨ (¬(i < 30 ∨ (100 ≤ i ∧ i < 170) ∨ (300 ≤ i ∧ i < 370)) ∧ ¬(C ∨ R ∨ D))

/-- The row has labels in the first range. -/
def HasFirst (y : Fin 9605 → EReal) : Prop := 0 < ∑ k : Fin 30, y ⟨k.val, by omega⟩

/-- The row has labels in the second range. -/
def HasSecond (y : Fin 9605 → EReal) : Prop := 0 < ∑ k : Fin 70, y ⟨100 + k.val, by omega⟩

/-- The row has labels in the third range. -/
def HasThird (y : Fin 9605 → EReal) : Prop := 0 < ∑ k : Fin 70, y ⟨300 + k.val, by omega⟩

/-- Column `i` of a row with labels `y` is eligible. -/
def RowEligible (y : Fin 9605 → EReal) (i : Fin 9605) : Prop :=
  Eligible (HasFirst y) (HasSecond y) (HasThird y) i.val

/-- The correction of an entry, were it picked. -/
def correction (y s : Fin 9605 → EReal) (i : Fin 9605) : EReal :=
  open Classical in if RowEligible y i then weighted (y i) (s i) * (factor (y i) (s i) - 1) else 0

/-- The loss of an entry: weighted, and corrected when it is among the ten best of its row and eligible. -/
def entryLoss (y s : Fin 9605 → EReal) (i : Fin 9605) : EReal :=
  open Classical in weighted (y i) (s i) + if Picked s 10 i then correction y s i else 0

/-- The ten corrections, one per rank, add up to the row's entries' corrections. -/
theorem row_sum (y s : Fin 9605 → EReal) :
    ∑ i, weighted (y i) (s i) + ∑ k : Fin 10, correction y s (pick s (k.castLE (by norm_num)))
      = ∑ i, entryLoss y s i := by
  rw [sum_picked s 10 (by norm_num) (correction y s), ← Finset.sum_add_distrib]
  rfl

/-- The entry as the product the loss is defined by. -/
theorem entryLoss_eq (y s : Fin 9605 → EReal) (hy : ∀ i, y i = 0 ∨ y i = 1) (hs : ∀ i, ∃ r : ℝ, s i = (r : EReal))
    (i : Fin 9605) (P : Prop) [Decidable P] (hP : P ↔ Picked s 10 i ∧ RowEligible y i) :
    likelihood (y i) (s i) * (if P then factor (y i) (s i) else 1) * power (y i) (s i) = entryLoss y s i := by
  rw [entry_eq _ _ (hy i) (hs i), entryLoss, correction]
  congr 1
  by_cases h1 : Picked s 10 i <;> by_cases h2 : RowEligible y i <;> simp [hP, h1, h2]

/-! ## The maximum and the first column attaining it -/

theorem bottom_bits : Ideal.ofBits .f32 0xFF800000#32 = ⊥ := by simp [Ideal.ofBits, Ideal.ieee]

theorem minus_one_bits : Ideal.ofBits .f32 0xBF800000#32 = -1 := by
  simp [Ideal.ofBits, Ideal.ieee, -EReal.coe_mul]
  norm_num

/-- A fold of maxima from the bottom is any value that bounds the others. -/
theorem fold_max_eq {n : ℕ} (f : Fin n → EReal) (p : Fin n) (h : ∀ i, f i ≤ f p) :
    Finset.univ.fold max (⊥ : EReal) f = f p :=
  le_antisymm ((Finset.fold_max_le _).mpr ⟨bot_le, fun i _ => h i⟩)
    ((Finset.le_fold_max _).mpr (Or.inr ⟨p, Finset.mem_univ p, le_rfl⟩))

/-- A fold of signed minima is below each of its terms. -/
theorem fold_min_le {ι : Type} (S : Finset ι) (b : BitVec 32) (g : ι → BitVec 32) :
    ∀ i ∈ S, (S.fold IntOp.minsi b g).toInt ≤ (g i).toInt := by
  classical
  induction S using Finset.induction with
  | empty => simp
  | insert a S ha ih =>
    intro i hi
    rw [Finset.fold_insert ha, SortNet.toInt_minsi]
    rcases Finset.mem_insert.mp hi with rfl | hi
    · exact min_le_left _ _
    · exact (min_le_right _ _).trans (ih i hi)

/-- A fold of signed minima is at least any bound of its start and its terms. -/
theorem le_fold_min {ι : Type} (S : Finset ι) (b : BitVec 32) (g : ι → BitVec 32) (c : ℤ) (hb : c ≤ b.toInt)
    (hg : ∀ i ∈ S, c ≤ (g i).toInt) : c ≤ (S.fold IntOp.minsi b g).toInt := by
  classical
  induction S using Finset.induction with
  | empty => simpa using hb
  | insert a S ha ih =>
    rw [Finset.fold_insert ha, SortNet.toInt_minsi]
    exact le_min (hg a (Finset.mem_insert_self a S)) (ih fun i hi => hg i (Finset.mem_insert_of_mem hi))

/-- The signed minimum over the columns satisfying `P`, a large number standing at the others, is the first of them. -/
theorem fold_first (P : Fin 9605 → Prop) [DecidablePred P] (p : Fin 9605) (hp : P p) (hmin : ∀ i, P i → p ≤ i) :
    Finset.univ.fold IntOp.minsi 2147483647#32 (fun i => if P i then BitVec.ofNat 32 i.val else 1073741824#32)
      = BitVec.ofNat 32 p.val := by
  have hw : ∀ i : Fin 9605, (BitVec.ofNat 32 i.val).toInt = (i.val : ℤ) := fun i =>
    WordCmp.toInt_ofNat_of_lt (by have := i.isLt; norm_num; omega)
  apply BitVec.eq_of_toInt_eq
  rw [hw]
  apply le_antisymm
  · have h := fold_min_le Finset.univ 2147483647#32
      (fun i => if P i then BitVec.ofNat 32 i.val else 1073741824#32) p (Finset.mem_univ p)
    simpa [hp, hw] using h
  · have hlt := p.isLt
    apply le_fold_min
    · rw [show (2147483647#32).toInt = 2147483647 from by decide]; omega
    · intro i _
      split_ifs with h
      · rw [hw]; exact_mod_cast hmin i h
      · rw [show (1073741824#32).toInt = 1073741824 from by decide]; omega

end Cert.Loss

end
-- ==== Proof.BlockValue.lean ====
module

public import proofs.«01_k».proof.Proof.Rounds
public import proofs.«01_k».proof.Proof.Row
public import Idealize.ShloMosaic.Lib.Pointwise

/-!
# The value of one block in exact arithmetic

Row by row, round `k` works on the scores with the `k` best overwritten, finds the next best and its first column, and
adds that entry's correction; so a block adds the losses of its entries.
-/

@[expose] public section

noncomputable section

namespace Cert.KernelIdeal.Value

open Cert.KernelIdeal Cert.KernelIdeal.Gen
open Idealize.ShloMosaic Idealize.ShloMosaic.TcCoe
open Cert.Loss

/-- Row `r` of a block of numbers. -/
def row (w : FVec Ideal S64x9605 .f32) (r : Fin 64) : Fin 9605 → EReal := fun i => w (ix2 r i)

/-! ## One round -/

section round

variable (w : FVec Ideal S64x9605 .f32) (s : Fin 9605 → EReal) (k : ℕ) (hk : k < 9605) (r : Fin 64)

theorem peak_fold (j : S64.Idx) :
    peak w j = Finset.univ.fold max (Ideal.ofBits .f32 0xFF800000#32) fun x : Fin 9605 => w (ix2 (j 0) x) := by
  pointwise [peak]

theorem place_fold (j : S64.Idx) : place w j = Finset.univ.fold IntOp.minsi 2147483647#32
    fun x : Fin 9605 => if w (ix2 (j 0) x) = peak w j then BitVec.ofNat 32 x.val else 1073741824#32 := by
  pointwise [place, placesAt, cols]

theorem spot_at (i : Fin 9605) :
    spot w (ix2 r i) = IntOp.cmpi .eq (BitVec.ofNat 32 i.val) (place w (ix1 r)) := by
  pointwise [spot, cols]

theorem pluck_sum (v : FVec Ideal S64x9605 .f32) (j : S64.Idx) :
    pluck v w j = ∑ x : Fin 9605, Scalar.select (spot w (ix2 (j 0) x)) (v (ix2 (j 0) x)) 0 := by
  pointwise [pluck]

theorem strike_at (i : Fin 9605) :
    strike w (ix2 r i) = Scalar.select (spot w (ix2 r i)) (Ideal.ofBits .f32 0xBF800000#32) (w (ix2 r i)) := by
  pointwise [strike]

theorem scale_at (v : FVec Ideal S64x9605 .f32) (j : S64.Idx) :
    scale v w j = (open Classical in if pluck v w j = 0 then peak w j else min ((1 - peak w j) + shift) 1) * two := by
  unfold shift two
  pointwise [scale]

variable (hs : ∀ i, 0 ≤ s i) (hw : ∀ i, w (ix2 r i) = work s k i)

include hs hw in
/-- The largest remaining score is the score of the next column in rank. -/
theorem peak_eq : peak w (ix1 r) = s (pick s ⟨k, hk⟩) := by
  rw [peak_fold, bottom_bits]
  show Finset.univ.fold max ⊥ (fun x => w (ix2 r x)) = _
  simp only [hw]
  rw [fold_max_eq (work s k) (pick s ⟨k, hk⟩), work_pick_self s k hk]
  intro i
  rw [work_pick_self s k hk]
  exact work_le s hs k hk i

include hs hw in
/-- The first column attaining it is the next column in rank. -/
theorem place_eq : place w (ix1 r) = BitVec.ofNat 32 (pick s ⟨k, hk⟩).val := by
  rw [place_fold, peak_eq w s k hk r hs hw]
  show Finset.univ.fold IntOp.minsi _ (fun x => if w (ix2 r x) = _ then _ else _) = _
  simp only [hw]
  exact fold_first (fun i => work s k i = s (pick s ⟨k, hk⟩)) _ (work_pick_self s k hk)
    fun i hi => pick_le s hs k hk i hi

include hs hw in
theorem spot_eq (i : Fin 9605) : spot w (ix2 r i) = BitVec.ofBool (decide (i = pick s ⟨k, hk⟩)) := by
  rw [spot_at, place_eq w s k hk r hs hw, WordCmp.cmpi_eq_ofNat (by have := i.isLt; norm_num; omega)
    (by have := (pick s ⟨k, hk⟩).isLt; norm_num; omega)]
  simp only [Fin.ext_iff]

include hs hw in
/-- What is read at the spot is the entry there. -/
theorem pluck_eq (v : FVec Ideal S64x9605 .f32) : pluck v w (ix1 r) = v (ix2 r (pick s ⟨k, hk⟩)) := by
  rw [pluck_sum]
  show ∑ x : Fin 9605, Scalar.select (spot w (ix2 r x)) (v (ix2 r x)) 0 = _
  rw [Finset.sum_eq_single (pick s ⟨k, hk⟩)]
  · rw [spot_eq w s k hk r hs hw]; simp [Scalar.select]
  · intro i _ hi
    rw [spot_eq w s k hk r hs hw]; simp [Scalar.select, hi]
  · exact fun h => absurd (Finset.mem_univ _) h

include hk hs hw in
/-- The next round works on the scores with one more overwritten. -/
theorem strike_eq (i : Fin 9605) : strike w (ix2 r i) = work s (k + 1) i := by
  rw [strike_at, spot_eq w s k hk r hs hw, work_succ s k hk, minus_one_bits, hw]
  by_cases h : i = pick s ⟨k, hk⟩ <;> simp [Scalar.select, h]

include hs hw in
theorem scale_eq (v : FVec Ideal S64x9605 .f32) :
    scale v w (ix1 r) = factor (v (ix2 r (pick s ⟨k, hk⟩))) (s (pick s ⟨k, hk⟩)) := by
  rw [scale_at, pluck_eq w s k hk r hs hw, peak_eq w s k hk r hs hw]
  rfl

end round

/-! ## Which columns are eligible -/

theorem eligible_at (c t d g : IVec S64 1) (p : IVec S64 32) (j : S64.Idx) (C R D : Prop) [Decidable C] [Decidable R]
    [Decidable D] (n : ℕ) (hn : n < 9605) (hp : p j = BitVec.ofNat 32 n) (hc : c j = BitVec.ofBool (decide C))
    (ht : t j = BitVec.ofBool (decide R)) (hd : d j = BitVec.ofBool (decide D))
    (hg : g j = BitVec.ofBool (decide (¬(C ∨ R ∨ D)))) : eligible c t d g p j = 1#1 ↔ Eligible C R D n := by
  have l : ∀ m : ℕ, m < 1000 → IntOp.cmpi .slt (BitVec.ofNat 32 n) (BitVec.ofNat 32 m) = BitVec.ofBool (decide (n < m)) :=
    fun m hm => WordCmp.cmpi_slt_ofNat (by norm_num; omega) (by norm_num; omega)
  have u : ∀ m : ℕ, m < 1000 → IntOp.cmpi .sge (BitVec.ofNat 32 n) (BitVec.ofNat 32 m) = BitVec.ofBool (decide (m ≤ n)) :=
    fun m hm => WordCmp.cmpi_sge_ofNat (by norm_num; omega) (by norm_num; omega)
  have hx : IntOp.xori = fun a b : BitVec 1 => a ^^^ b := rfl
  pointwise [eligible, inNone, inThird, inSecond, inFirst]
  rw [hp, hc, ht, hd, hg, l 30 (by norm_num), l 170 (by norm_num), l 370 (by norm_num), u 100 (by norm_num),
    u 300 (by norm_num), show (1#1 : BitVec 1) = BitVec.ofBool true from rfl]
  simp only [WordCmp.andi_ofBool, WordCmp.ori_ofBool, WordCmp.xori_ofBool]
  rw [show BitVec.ofBool true = 1#1 from rfl, WordCmp.ofBool_eq_one_iff]
  simp only [Eligible, Bool.or_eq_true, Bool.and_eq_true, Bool.xor_true, Bool.not_eq_true', decide_eq_true_eq,
    Bool.or_eq_false_iff, Bool.and_eq_false_iff, decide_eq_false_iff_not]
  tauto

/-! ## The block -/

section block

variable (x : Vec Ideal S64x9605 .f32) (y : Vec Ideal S64x9605 .i32)

/-- The sigmoids of row `r`. -/
def bsig (r : Fin 64) : Fin 9605 → EReal := fun i => Ideal.logistic (x (ix2 r i))

/-- The labels of row `r`. -/
def blab (r : Fin 64) : Fin 9605 → EReal := fun i => FloatOps.sitofp (F := Ideal) .f32 (y (ix2 r i))

theorem sig_nonneg (r : Fin 64) (i : Fin 9605) : 0 ≤ bsig x r i := by
  obtain ⟨q, hq, e⟩ := logistic_real (x (ix2 r i))
  show 0 ≤ Ideal.logistic _
  rw [e]
  exact_mod_cast hq

theorem lab_at (r : Fin 64) (i : Fin 9605) : k0_pay3 (F := Ideal) y (ix2 r i) = blab y r i := by
  unfold blab
  pointwise [k0_pay3]

theorem sig_at (r : Fin 64) (i : Fin 9605) : k0_pay4 x (ix2 r i) = bsig x r i := by
  unfold bsig
  pointwise [k0_pay4]

theorem weighted_at (r : Fin 64) (i : Fin 9605) : k0_pay5 x y (ix2 r i) = weighted (blab y r i) (bsig x r i) := by
  unfold weighted likelihood focus gap other shift floorEps blab bsig
  pointwise [k0_pay5, k0_pay4, k0_pay3]

theorem total_eq : k0_pay6 x y = ∑ r : Fin 64, ∑ i : Fin 9605, weighted (blab y r i) (bsig x r i) := by
  have h : k0_pay6 x y = ∑ r : Fin 64, ∑ i : Fin 9605, k0_pay5 x y (ix2 r i) := by
    pointwise [k0_pay6]
  simp only [h, weighted_at]

open Classical in
theorem first_at (j : S64.Idx) : k0_pay9 (k0_pay7 y) (k0_pay8 (F := Ideal)) j
    = BitVec.ofBool (decide (HasFirst (blab y (j 0)))) := by
  unfold HasFirst blab
  pointwise [k0_pay9, k0_pay7, k0_pay8, k0_pay3]
  exact congrArg BitVec.ofBool (decide_eq_decide.mpr Iff.rfl)

open Classical in
theorem second_at (j : S64.Idx) : k0_pay10 (k0_pay3 (F := Ideal) y) j
    = BitVec.ofBool (decide (HasSecond (blab y (j 0)))) := by
  unfold HasSecond blab
  pointwise [k0_pay10, k0_pay3]
  exact congrArg BitVec.ofBool (decide_eq_decide.mpr Iff.rfl)

open Classical in
theorem third_at (j : S64.Idx) : k0_pay11 (k0_pay3 (F := Ideal) y) j
    = BitVec.ofBool (decide (HasThird (blab y (j 0)))) := by
  unfold HasThird blab
  pointwise [k0_pay11, k0_pay3]
  exact congrArg BitVec.ofBool (decide_eq_decide.mpr Iff.rfl)

open Classical in
theorem none_at (j : S64.Idx) : k0_pay12 (k0_pay3 y) (k0_pay7 y) (k0_pay8 (F := Ideal)) j
    = BitVec.ofBool (decide (¬(HasFirst (blab y (j 0)) ∨ HasSecond (blab y (j 0)) ∨ HasThird (blab y (j 0))))) := by
  have h : k0_pay12 (k0_pay3 y) (k0_pay7 y) (k0_pay8 (F := Ideal)) j
      = IntOp.xori (IntOp.ori (IntOp.ori (k0_pay9 (k0_pay7 y) (k0_pay8 (F := Ideal)) j)
          (k0_pay10 (k0_pay3 (F := Ideal) y) j)) (k0_pay11 (k0_pay3 (F := Ideal) y) j)) (BitVec.ofBool true) := by
    pointwise [k0_pay12]
    rfl
  rw [h, first_at, second_at, third_at]
  simp only [WordCmp.ori_ofBool, WordCmp.xori_ofBool]
  congr 1
  by_cases h1 : HasFirst (blab y (j 0)) <;> by_cases h2 : HasSecond (blab y (j 0)) <;>
    by_cases h3 : HasThird (blab y (j 0)) <;> simp [h1, h2, h3]

/-- What one round adds for each row of the block. -/
def roundTerm (k : ℕ) : FVec Ideal S64 .f32 :=
  term (k0_pay3 y) (k0_pay5 x y) (k0_pay9 (k0_pay7 y) (k0_pay8 (F := Ideal)))
    (k0_pay10 (k0_pay3 (F := Ideal) y)) (k0_pay11 (k0_pay3 (F := Ideal) y))
    (k0_pay12 (k0_pay3 y) (k0_pay7 y) (k0_pay8 (F := Ideal))) (works (k0_pay4 x) k)

/-- Round `k` works on the sigmoids with the `k` best of each row overwritten. -/
theorem works_at (r : Fin 64) (k : ℕ) (hk : k ≤ 9605) (i : Fin 9605) :
    works (k0_pay4 x) k (ix2 r i) = work (bsig x r) k i := by
  induction k generalizing i with
  | zero => rw [work_zero]; exact sig_at x r i
  | succ k ih =>
    exact strike_eq (works (k0_pay4 x) k) (bsig x r) k hk r (sig_nonneg x r) (ih (Nat.le_of_succ_le hk)) i

theorem term_at (y lw : FVec Ideal S64x9605 .f32) (c r d g : IVec S64 1) (w : FVec Ideal S64x9605 .f32) (j : S64.Idx) :
    term y lw c r d g w j = Scalar.select (eligible c r d g (place w) j) (pluck lw w j * (scale y w j - 1)) 0 := by
  pointwise [term]

/-- Round `k` adds the correction of the entry of rank `k` of each row. -/
theorem roundTerm_at (k : ℕ) (hk : k < 9605) (r : Fin 64) :
    roundTerm x y k (ix1 r) = correction (blab y r) (bsig x r) (pick (bsig x r) ⟨k, hk⟩) := by
  classical
  have hw := works_at x r k hk.le
  have hs := sig_nonneg x r
  have he := eligible_at (k0_pay9 (k0_pay7 y) (k0_pay8 (F := Ideal)))
    (k0_pay10 (k0_pay3 (F := Ideal) y)) (k0_pay11 (k0_pay3 (F := Ideal) y))
    (k0_pay12 (k0_pay3 y) (k0_pay7 y) (k0_pay8 (F := Ideal))) (place (works (k0_pay4 x) k)) (ix1 r)
    _ _ _ _ (pick (bsig x r) ⟨k, hk⟩).isLt (place_eq _ _ k hk r hs hw)
    (first_at y (ix1 r)) (second_at y (ix1 r)) (third_at y (ix1 r)) (none_at y (ix1 r))
  rw [roundTerm, term_at, pluck_eq _ _ k hk r hs hw, scale_eq _ _ k hk r hs hw, weighted_at, lab_at, correction]
  by_cases h : RowEligible (blab y r) (pick (bsig x r) ⟨k, hk⟩)
  · rw [if_pos h, show eligible _ _ _ _ _ _ = 1#1 from he.mpr h]; rfl
  · rw [if_neg h]
    have h1 := mt he.mp h
    simp only [Scalar.select]
    exact if_neg h1

theorem tally_eq (v : FVec Ideal S64 .f32) : tally v = ∑ r : Fin 64, v (ix1 r) := by
  pointwise [tally]

/-- The corrections of the first `n` rounds, as one sum. -/
theorem corrections_eq (Y lw : FVec Ideal S64x9605 .f32) (c r d g : IVec S64 1) (w : FVec Ideal S64x9605 .f32) (n : ℕ) :
    corrections Y lw c r d g w n = ∑ k : Fin n, ∑ b : Fin 64, term Y lw c r d g (works w k.val) (ix1 b) := by
  induction n with
  | zero => simp [corrections, Scalar.ofBits, FloatOps.ofBits, Ideal.ofBits, Ideal.ieee]
  | succ n ih =>
    rw [Fin.sum_univ_castSucc, corrections, ih, tally_eq]
    rfl

/-- A block adds the losses of its entries to the total. -/
theorem blockOut_eq (o : Vec Ideal S1x1 .f32) :
    blockOut x y o (ix2 0 0) = o (ix2 0 0) + ∑ r : Fin 64, ∑ i : Fin 9605, entryLoss (blab y r) (bsig x r) i := by
  have h : ∀ v u : Ideal .f32, addf (shapeCast S1x1 o shapeCasts_S1x1_S1x1)
      (broadcast S1x1 (Scalar.addf v u)) (ix2 0 0) = o (ix2 0 0) + (v + u) := by
    intro v u
    pointwise
  rw [blockOut, h, corrections_eq]
  refine congrArg (fun v : EReal => o (ix2 0 0) + v) ?_
  rw [total_eq]
  refine (congrArg (fun v : EReal => (∑ r : Fin 64, ∑ i : Fin 9605, weighted (blab y r i) (bsig x r i)) + v)
    Finset.sum_comm).trans ?_
  rw [← Finset.sum_add_distrib]
  refine Finset.sum_congr rfl fun r _ => ?_
  rw [← row_sum]
  refine congrArg (fun v : EReal => ∑ i : Fin 9605, weighted (blab y r i) (bsig x r i) + v) ?_
  exact Finset.sum_congr rfl fun k _ => roundTerm_at x y k.val (by omega) r

end block

end Cert.KernelIdeal.Value

end
-- ==== Proof.KernelSum.lean ====
module

public import proofs.«01_k».proof.Proof.KernelRun
public import proofs.«01_k».proof.Proof.BlockValue

/-!
# What the grid adds up

Grid step `t` reads rows `64 t` to `64 t + 63` of the arguments, so the sixteen blocks' totals add up to the sum over
all rows.
-/

@[expose] public section

noncomputable section

namespace Cert.KernelIdeal.Value

open Cert.KernelIdeal Cert.KernelIdeal.Gen
open Idealize.ShloMosaic Idealize.ShloMosaic.TcCoe Idealize.SL.Sem
open Cert.Loss

variable (m : (ℓ : Loc nD τ sig) → Buf (Elt Ideal) ℓ) (c : Dev nD)

/-- Both arguments' blocks move one step down per grid step. -/
theorem index_eq (t : Fin cfg0.N) :
    win0_0.index t 0 = t.val ∧ win0_0.index t 1 = 0 ∧ win0_1.index t 0 = t.val ∧ win0_1.index t 1 = 0 := by
  fin_cases t <;> decide +kernel

/-- The row of the argument that row `r` of grid step `t`'s block is. -/
def rowOf (t : Fin cfg0.N) (r : Fin 64) : Fin 1024 :=
  ⟨64 * t.val + r.val, by have := t.isLt; have hN : cfg0.N = 16 := N_0; omega⟩

theorem block_x (t : Fin cfg0.N) (r : Fin 64) (i : Fin 9605) :
    iblk m c 0 t (ix2 r i) = m ((c : Thread nD τ).loc main_arg0) (ix2 (rowOf t r) i) := by
  unfold iblk
  rw [View.read_apply]
  refine congrArg (m ((c : Thread nD τ).loc main_arg0)) ?_
  funext a
  apply Fin.ext
  obtain ⟨h0, h1, _, _⟩ := index_eq t
  match a with
  | ⟨0, _⟩ => show win0_0.index t 0 * 64 + 1 * r.val = 64 * t.val + r.val; rw [h0]; omega
  | ⟨1, _⟩ => show win0_0.index t 1 * 9605 + 1 * i.val = i.val; rw [h1]; omega

theorem block_y (t : Fin cfg0.N) (r : Fin 64) (i : Fin 9605) :
    iblk m c 1 t (ix2 r i) = m ((c : Thread nD τ).loc main_arg1) (ix2 (rowOf t r) i) := by
  unfold iblk
  rw [View.read_apply]
  refine congrArg (m ((c : Thread nD τ).loc main_arg1)) ?_
  funext a
  apply Fin.ext
  obtain ⟨_, _, h0, h1⟩ := index_eq t
  match a with
  | ⟨0, _⟩ => show win0_1.index t 0 * 64 + 1 * r.val = 64 * t.val + r.val; rw [h0]; omega
  | ⟨1, _⟩ => show win0_1.index t 1 * 9605 + 1 * i.val = i.val; rw [h1]; omega

/-- The sigmoids of row `R` of the arguments. -/
def ksig (R : Fin 1024) (i : Fin 9605) : EReal := Ideal.logistic (m ((c : Thread nD τ).loc main_arg0) (ix2 R i))

/-- The labels of row `R`, as numbers. -/
def klab (R : Fin 1024) (i : Fin 9605) : EReal :=
  FloatOps.sitofp (F := Ideal) .f32 (m ((c : Thread nD τ).loc main_arg1) (ix2 R i))

/-- The loss of row `R`. -/
def rowLoss (R : Fin 1024) : EReal := ∑ i : Fin 9605, entryLoss (klab m c R) (ksig m c R) i

/-- The loss of row `n`, and 0 past the last row. -/
def lossAt (n : ℕ) : EReal := if h : n < 1024 then rowLoss m c ⟨n, h⟩ else 0

theorem lossAt_eq (R : Fin 1024) : lossAt m c R.val = rowLoss m c R := dif_pos R.isLt

/-- A grid step adds its rows' losses. -/
theorem block_sum (t : Fin cfg0.N) (o : Vec Ideal S1x1 .f32) :
    blockOut (iblk m c 0 t) (iblk m c 1 t) o (ix2 0 0)
      = o (ix2 0 0) + ∑ b ∈ Finset.range 64, lossAt m c (64 * t.val + b) := by
  rw [blockOut_eq, ← Fin.sum_univ_eq_sum_range (fun b => lossAt m c (64 * t.val + b))]
  refine congrArg (fun v : EReal => o (ix2 0 0) + v) ?_
  refine Finset.sum_congr rfl fun r _ => ?_
  have hs : bsig (iblk m c 0 t) r = ksig m c (rowOf t r) :=
    funext fun i => congrArg Ideal.logistic (block_x m c t r i)
  have hl : blab (iblk m c 1 t) r = klab m c (rowOf t r) :=
    funext fun i => congrArg (FloatOps.sitofp (F := Ideal) .f32) (block_y m c t r i)
  rw [hs, hl]
  exact (lossAt_eq m c (rowOf t r)).symm

/-- The running total is the sum of the rows so far. -/
theorem chain_sum : ∀ (n : ℕ) (h : n < cfg0.N),
    chain m c n h (ix2 0 0) = ∑ R ∈ Finset.range (64 * (n + 1)), lossAt m c R
  | 0, h => by
    have h0 : (k0_pay1 (F := Ideal)) (ix2 0 0) = (0 : EReal) := by
      show Ideal.ofBits .f32 0x00000000#32 = 0
      simp [Ideal.ofBits, Ideal.ieee]
    rw [chain, block_sum, h0]
    simp only [Nat.mul_zero, Nat.zero_add, Nat.mul_one, zero_add]
  | n + 1, h => by
    rw [chain, block_sum, chain_sum n, show 64 * (n + 1 + 1) = 64 * (n + 1) + 64 by ring, Finset.sum_range_add]

/-- The loss of all rows. -/
def losses : EReal := ∑ R : Fin 1024, rowLoss m c R

/-- The total is the sum over all rows. -/
theorem total_sum : total m c (ix2 0 0) = losses m c := by
  refine (chain_sum m c 15 _).trans ?_
  unfold losses
  rw [← Fin.sum_univ_eq_sum_range (lossAt m c)]
  exact Finset.sum_congr rfl fun R _ => lossAt_eq m c R

end Cert.KernelIdeal.Value

end
-- ==== Proof.RefTopK.lean ====
module

public import proofs.«01_k».proof.Proof.Gen.ReferenceIdeal.Run
public import proofs.«01_k».proof.Proof.Row
public import Idealize.ShloMosaic.Lib.Pointwise
public import Idealize.ShloMosaic.Lib.Routing.OpsOrder

/-!
# The ten best columns of each row, as the reference finds them

The reference sorts each row by descending score, equal scores in column order, keeps the first ten column numbers, and
marks the columns that occur among them.
-/

@[expose] public section

noncomputable section

namespace Cert.ReferenceIdeal.Value

open Cert.ReferenceIdeal Cert.ReferenceIdeal.Gen
open Idealize.ShloMosaic Idealize.ShloMosaic.TcCoe Idealize.SL.Sem
open Cert.Loss

/-- The column numbers the reference keeps. -/
def best (v : FVec Ideal S1024x9605 .f32) : IVec S1024x10 32 :=
  (Host.topK S1024x10 1 (FloatOps.cmpfTotal .gt) v sliceFits_S1024x9605_S1024x10).2

/-- The first columns of a table, at an index. -/
theorem first_columns {m n l : ℕ} {α : Type} (hl : l ≤ n) (w : Shape.Idx ⟨2, ![m, n]⟩ → α)
    (h : (⟨2, ![m, n]⟩ : Shape).Slices (fun _ => 0) ⟨2, ![m, l]⟩) (r : Fin m) (k : Fin l) :
    extractStridedSlice ⟨2, ![m, l]⟩ (fun _ => 0) w h (ix2 r k) = w (ix2 r (k.castLE hl)) := by
  unfold extractStridedSlice
  refine congrArg w ?_
  funext a
  apply Fin.ext
  match a with
  | ⟨0, _⟩ => exact Nat.zero_add _
  | ⟨1, _⟩ => exact Nat.zero_add _

/-- Two tables sorted together along their rows: the second one, at an index, is its entry at the sorted position. -/
theorem sorted_at {m n : ℕ} {α β : Type} (cmp : α × β → α × β → BitVec 1) (x : Shape.Idx ⟨2, ![m, n]⟩ → α)
    (y : Shape.Idx ⟨2, ![m, n]⟩ → β) (r : Fin m) (k : Fin n) :
    (Host.sort2 ⟨2, ![m, n]⟩ 1 cmp x y).2 (ix2 r k)
      = y (ix2 r (sortedFrom (fun p q => cmp (x (ix2 r p), y (ix2 r p)) (x (ix2 r q), y (ix2 r q)) == 1#1) k)) := by
  have e : (fun q : Fin n => Shape.Idx.along (s := ⟨2, ![m, n]⟩) (ix2 r k) 1 q) = fun q => ix2 r q := by
    funext q a
    match a with
    | ⟨0, _⟩ => rfl
    | ⟨1, _⟩ => rfl
  unfold Host.sort2
  rw [dif_pos (show 1 < (⟨2, ![m, n]⟩ : Shape).rank from Nat.one_lt_two)]
  exact congrArg (fun g : Fin n → Shape.Idx ⟨2, ![m, n]⟩ =>
    y (g (sortedFrom (fun p q => cmp (x (g p), y (g p)) (x (g q), y (g q)) == 1#1) k))) e

/-- The kept column numbers of a table, at an index: the number of the column sorted there. -/
theorem kept_at {m n l : ℕ} {α : Type} (hl : l ≤ n) (gt : α → α → BitVec 1) (x : Shape.Idx ⟨2, ![m, n]⟩ → α)
    (h : (⟨2, ![m, n]⟩ : Shape).Slices (fun _ => 0) ⟨2, ![m, l]⟩) (r : Fin m) (k : Fin l) :
    (Host.topK ⟨2, ![m, l]⟩ 1 gt x h).2 (ix2 r k)
      = BitVec.ofNat 32 (sortedFrom (fun p q => gt (x (ix2 r p)) (x (ix2 r q)) == 1#1) (k.castLE hl)).val := by
  exact (first_columns hl (Host.sort2 ⟨2, ![m, n]⟩ 1 (fun a b => gt a.1 b.1) x fun i =>
      if hd : 1 < (⟨2, ![m, n]⟩ : Shape).rank then iotaInDim ⟨2, ![m, n]⟩ 32 ⟨1, hd⟩ i else 0#32).2 h r k).trans
    ((sorted_at _ x _ r _).trans (dif_pos (show 1 < (⟨2, ![m, n]⟩ : Shape).rank from Nat.one_lt_two)))

/-- The `k`-th kept column of row `r` is the column of rank `k`. -/
theorem best_at (v : FVec Ideal S1024x9605 .f32) (r : Fin 1024) (k : Fin 10) :
    best v (ix2 r k) = BitVec.ofNat 32 (pick (fun i => v (ix2 r i)) (k.castLE (by norm_num))).val := by
  rw [← sortedFrom_greater (fun i => v (ix2 r i)) (fun p q =>
    (FloatOps.cmpfTotal (F := Ideal) .gt (v (ix2 r p)) (v (ix2 r q)) == 1#1))]
  · exact kept_at (m := 1024) (n := 9605) (l := 10) (by norm_num) (FloatOps.cmpfTotal (F := Ideal) .gt) v
      sliceFits_S1024x9605_S1024x10 r k
  · intro a b
    show (BitVec.ofBool (decide (v (ix2 r b) < v (ix2 r a))) == 1#1) = true ↔ _
    rw [beq_iff_eq, WordCmp.ofBool_decide_eq_one_iff]

/-- The columns that occur among the kept ones. -/
def marked (v : FVec Ideal S1024x9605 .f32) : IVec S1024x9605 1 :=
  Host.reduce IntOp.ori (cmpi .eq (broadcastInDim S1024x10x9605 ![0, 1, 2] bcast_S1024x10x1_S1024x10x9605_0_1_2 (broadcastInDim S1024x10x1 ![0, 1] bcast_S1024x10_S1024x10x1_0_1 (best v))) (broadcastInDim S1024x10x9605 ![0, 1, 2] bcast_S1x1x9605_S1024x10x9605_0_1_2 (broadcastInDim S1x1x9605 ![2] bcast_S9605_S1x1x9605_2 (iotaInDim S9605 32 0)))) (constantI S_ 1 0#1) reducesTo_S1024x10x9605_S1024x9605_d1 h_S_

/-- A column is marked exactly when it is among its row's ten best. -/
theorem marked_at (v : FVec Ideal S1024x9605 .f32) (r : Fin 1024) (i : Fin 9605) :
    marked v (ix2 r i) = 1#1 ↔ Picked (fun i => v (ix2 r i)) 10 i := by
  have h : marked v (ix2 r i) = Finset.univ.fold IntOp.ori 0#1
      fun x : Fin 10 => IntOp.cmpi .eq (best v (ix2 r x)) (BitVec.ofNat 32 i.val) := by
    pointwise [marked]
  have h32 : ∀ q : Fin 9605, q.val < 2 ^ 32 := fun q => by have := q.isLt; norm_num; omega
  rw [h, Routing.fold_ori]
  constructor
  · rintro ⟨k, hk⟩
    rw [best_at, WordCmp.cmpi_eq_ofNat_eq_one_iff (h32 _) (h32 _)] at hk
    exact ⟨k.castLE (by norm_num), k.isLt, Fin.ext hk.2⟩
  · rintro ⟨k, hk, e⟩
    refine ⟨⟨k.val, hk⟩, Finset.mem_univ _, ?_⟩
    rw [best_at, WordCmp.cmpi_eq_ofNat_eq_one_iff (h32 _) (h32 _)]
    exact congrArg Fin.val e

end Cert.ReferenceIdeal.Value

end
-- ==== Proof.RefValue.lean ====
module

public import proofs.«01_k».proof.Proof.RefTopK

/-!
# What the reference computes

Entry by entry: the labels as numbers, the sigmoid, the shifted negative probability, the conditions of a row and of a
column, and the product that is summed. With labels 0 and 1 the product is the entry's loss.
-/

@[expose] public section

noncomputable section

namespace Cert.ReferenceIdeal.Value

open Cert.ReferenceIdeal Cert.ReferenceIdeal.Gen
open Idealize.ShloMosaic Idealize.ShloMosaic.TcCoe Idealize.SL.Sem
open Cert.Loss

/-- What the arguments hold. -/
local notation "Held" => Valuation τ sig (Elt Ideal)

/-- The columns of the kind numbered `c`. -/
def ofKind (V0 : Held) (c : BitVec 32) : IVec S1x9605 1 :=
  id (cmpi .ne (cmpi .eq (res_main_v73 V0) (broadcastInDim S1x9605 ![] bcast_S_S1x9605 (constantI S_ 32 c)))
    (broadcastInDim S1x9605 ![] bcast_S_S1x9605 (constantI S_ 1 0#1)))

/-- The entries whose column fits its row's labels. -/
def ready (V0 : Held) : IVec S1024x9605 1 :=
  ori (andi (broadcastInDim S1024x9605 ![0, 1] bcast_S1x9605_S1024x9605_0_1 (broadcastInDim S1x9605 ![1] bcast_S9605_S1x9605_1 (noti (ori (ori (ori (res_main_v3 V0) (res_main_v8 V0)) (res_main_v13 V0)) (andi (cmpi .sge (res_main_v1 V0) (broadcastInDim S9605 ![] bcast_S_S9605 (constantI S_ 32 500#32))) (cmpi .slt (res_main_v1 V0) (broadcastInDim S9605 ![] bcast_S_S9605 (constantI S_ 32 560#32)))))))) (broadcastInDim S1024x9605 ![0, 1] bcast_S1024x1_S1024x9605_0_1 (broadcastInDim S1024x1 ![0] bcast_S1024_S1024x1_0 (res_main_v60 V0)))) (ori (ori (ori (andi (broadcastInDim S1024x9605 ![0, 1] bcast_S1x9605_S1024x9605_0_1 (ofKind V0 1#32)) (broadcastInDim S1024x9605 ![0, 1] bcast_S1024x1_S1024x9605_0_1 (broadcastInDim S1024x1 ![0] bcast_S1024_S1024x1_0 (res_main_v49 V0)))) (andi (broadcastInDim S1024x9605 ![0, 1] bcast_S1x9605_S1024x9605_0_1 (ofKind V0 2#32)) (broadcastInDim S1024x9605 ![0, 1] bcast_S1024x1_S1024x9605_0_1 (broadcastInDim S1024x1 ![0] bcast_S1024_S1024x1_0 (res_main_v53 V0))))) (andi (broadcastInDim S1024x9605 ![0, 1] bcast_S1x9605_S1024x9605_0_1 (ofKind V0 3#32)) (broadcastInDim S1024x9605 ![0, 1] bcast_S1024x1_S1024x9605_0_1 (broadcastInDim S1024x1 ![0] bcast_S1024_S1024x1_0 (res_main_v57 V0))))) (andi (broadcastInDim S1024x9605 ![0, 1] bcast_S1x9605_S1024x9605_0_1 (ofKind V0 4#32)) (broadcastInDim S1024x9605 ![0, 1] bcast_S1024x1_S1024x9605_0_1 (broadcastInDim S1024x1 ![0] bcast_S1024_S1024x1_0 (res_main_v60 V0)))))

/-- The summed products. -/
def product (V0 : Held) : FVec Ideal S1024x9605 .f32 :=
  mulf (mulf (addf (mulf (res_main_v0 V0) (Host.log (maximumf (broadcastInDim S1024x9605 ![] bcast_S_S1024x9605 (constant S_ .f32 0x322BCC77#32)) (res_main_v30 V0)))) (mulf (subf (broadcastInDim S1024x9605 ![] bcast_S_S1024x9605 (constant S_ .f32 0x3F800000#32)) (res_main_v0 V0)) (Host.log (maximumf (broadcastInDim S1024x9605 ![] bcast_S_S1024x9605 (constant S_ .f32 0x322BCC77#32)) (res_main_v36 V0))))) (select (andi (marked (res_main_v30 V0)) (ready V0)) (mulf (select (cmpf .oeq (res_main_v0 V0) (broadcastInDim S1024x9605 ![] bcast_S_S1024x9605 (constant S_ .f32 0x00000000#32))) (res_main_v30 V0) (res_main_v36 V0)) (broadcastInDim S1024x9605 ![] bcast_S_S1024x9605 (constant S_ .f32 0x40000000#32))) (broadcastInDim S1024x9605 ![] bcast_S_S1024x9605 (constant S_ .f32 0x3F800000#32)))) (Host.powf (subf (broadcastInDim S1024x9605 ![] bcast_S_S1024x9605 (constant S_ .f32 0x3F800000#32)) (addf (mulf (res_main_v30 V0) (res_main_v0 V0)) (mulf (res_main_v36 V0) (subf (broadcastInDim S1024x9605 ![] bcast_S_S1024x9605 (constant S_ .f32 0x3F800000#32)) (res_main_v0 V0))))) (addf (mulf (broadcastInDim S1024x9605 ![] bcast_S_S1024x9605 (constant S_ .f32 0x3F800000#32)) (res_main_v0 V0)) (mulf (broadcastInDim S1024x9605 ![] bcast_S_S1024x9605 (constant S_ .f32 0x40800000#32)) (subf (broadcastInDim S1024x9605 ![] bcast_S_S1024x9605 (constant S_ .f32 0x3F800000#32)) (res_main_v0 V0)))))

/-- The reference's sum is the sum of the products. -/
theorem res_main_v138_eq (V0 : Held) :
    res_main_v138 V0 = Host.reduceAdd (product V0) (constant S_ .f32 0x00000000#32) reducesTo_S1024x9605_S_d0_1 h_S_ := rfl

/-- The sigmoids of row `r`. -/
def rsig (V0 : Held) (r : Fin 1024) (i : Fin 9605) : EReal :=
  Ideal.logistic (V0 (Proc.devRef .tc main_arg0) (ix2 r i))

/-- The labels of row `r`, as numbers. -/
def rlab (V0 : Held) (r : Fin 1024) (i : Fin 9605) : EReal :=
  FloatOps.sitofp (F := Ideal) .f32 (V0 (Proc.devRef .tc main_arg1) (ix2 r i))

theorem v0_at (V0 : Held) (r : Fin 1024) (i : Fin 9605) : res_main_v0 V0 (ix2 r i) = rlab V0 r i := rfl

theorem v30_at (V0 : Held) (r : Fin 1024) (i : Fin 9605) : res_main_v30 V0 (ix2 r i) = rsig V0 r i := by
  pointwise [res_main_v30]
  rfl

theorem v36_at (V0 : Held) (r : Fin 1024) (i : Fin 9605) : res_main_v36 V0 (ix2 r i) = other (rsig V0 r i) := by
  rw [← v30_at]
  pointwise [res_main_v36]
  rfl

open Classical in
/-- The row has labels in the first range. -/
theorem v49_at (V0 : Held) (r : Fin 1024) : res_main_v49 V0 (ix1 r) = BitVec.ofBool (decide (HasFirst (rlab V0 r))) := by
  pointwise [res_main_v49]
  exact congrArg BitVec.ofBool (decide_eq_decide.mpr Iff.rfl)

open Classical in
/-- The row has labels in the second range. -/
theorem v53_at (V0 : Held) (r : Fin 1024) :
    res_main_v53 V0 (ix1 r) = BitVec.ofBool (decide (HasSecond (rlab V0 r))) := by
  pointwise [res_main_v53]
  exact congrArg BitVec.ofBool (decide_eq_decide.mpr Iff.rfl)

open Classical in
/-- The row has labels in the third range. -/
theorem v57_at (V0 : Held) (r : Fin 1024) :
    res_main_v57 V0 (ix1 r) = BitVec.ofBool (decide (HasThird (rlab V0 r))) := by
  pointwise [res_main_v57]
  exact congrArg BitVec.ofBool (decide_eq_decide.mpr Iff.rfl)

open Classical in
/-- The row has labels in none of the ranges. -/
theorem v60_at (V0 : Held) (r : Fin 1024) : res_main_v60 V0 (ix1 r)
    = BitVec.ofBool (decide (¬(HasFirst (rlab V0 r) ∨ HasSecond (rlab V0 r) ∨ HasThird (rlab V0 r)))) := by
  pointwise [res_main_v60]
  rw [v49_at, v53_at, v57_at, WordCmp.ori_ofBool, WordCmp.ori_ofBool]
  by_cases h1 : HasFirst (rlab V0 r) <;> by_cases h2 : HasSecond (rlab V0 r) <;>
    by_cases h3 : HasThird (rlab V0 r) <;> simp [h1, h2, h3]

/-! ## Columns -/

section column

variable (V0 : Held) (i : Fin 9605)

theorem below (m : ℕ) (hm : m < 1000) :
    IntOp.cmpi .slt (BitVec.ofNat 32 i.val) (BitVec.ofNat 32 m) = BitVec.ofBool (decide (i.val < m)) :=
  WordCmp.cmpi_slt_ofNat (by have := i.isLt; norm_num; omega) (by norm_num; omega)

theorem above (m : ℕ) (hm : m < 1000) :
    IntOp.cmpi .sge (BitVec.ofNat 32 i.val) (BitVec.ofNat 32 m) = BitVec.ofBool (decide (m ≤ i.val)) :=
  WordCmp.cmpi_sge_ofNat (by have := i.isLt; norm_num; omega) (by norm_num; omega)

theorem v3_at : res_main_v3 V0 (ix1 i) = BitVec.ofBool (decide (i.val < 30)) := by
  pointwise [res_main_v3, res_main_v1]
  exact below i 30 (by norm_num)

theorem v8_at : res_main_v8 V0 (ix1 i) = BitVec.ofBool (decide (100 ≤ i.val ∧ i.val < 170)) := by
  pointwise [res_main_v8, res_main_v1]
  rw [below i 170 (by norm_num), above i 100 (by norm_num), WordCmp.andi_ofBool, Bool.decide_and]

theorem v13_at : res_main_v13 V0 (ix1 i) = BitVec.ofBool (decide (300 ≤ i.val ∧ i.val < 370)) := by
  pointwise [res_main_v13, res_main_v1]
  rw [below i 370 (by norm_num), above i 300 (by norm_num), WordCmp.andi_ofBool, Bool.decide_and]

/-- The kind of a column: 1, 2, 3 for the three ranges, 4 for the rest. -/
theorem v73_at : res_main_v73 V0 (ix2 0 i) = if i.val < 30 then 1#32 else if 100 ≤ i.val ∧ i.val < 170 then 2#32
    else if 300 ≤ i.val ∧ i.val < 370 then 3#32 else 4#32 := by
  pointwise [res_main_v73]
  rw [v3_at, v8_at, v13_at]
  by_cases h1 : i.val < 30 <;> by_cases h2 : 100 ≤ i.val ∧ i.val < 170 <;>
    by_cases h3 : 300 ≤ i.val ∧ i.val < 370 <;> simp [h1, h2, h3, Scalar.select]

/-- A kind in words: comparing it for equality, and that bit with zero. -/
theorem same_bits (a b : BitVec 32) : IntOp.cmpi .ne (IntOp.cmpi .eq a b) 0#1 = BitVec.ofBool (decide (a = b)) := by
  show BitVec.ofBool (BitVec.ofBool (a == b) != 0#1) = _
  by_cases h : a = b
  · rw [beq_iff_eq.mpr h, decide_eq_true h]; rfl
  · rw [beq_eq_false_iff_ne.mpr h, decide_eq_false h]; rfl

theorem ofKind_at (c : BitVec 32) (A B C : Prop) [Decidable A] [Decidable B] [Decidable C]
    (h : res_main_v73 V0 (ix2 0 i) = if A then 1#32 else if B then 2#32 else if C then 3#32 else 4#32)
    (K : Prop) [Decidable K] (hK : (if A then 1#32 else if B then 2#32 else if C then 3#32 else 4#32) = c ↔ K) :
    ofKind V0 c (ix2 0 i) = BitVec.ofBool (decide K) := by
  have e : ofKind V0 c (ix2 0 i) = IntOp.cmpi .ne (IntOp.cmpi .eq (res_main_v73 V0 (ix2 0 i)) c) 0#1 := rfl
  rw [e, h, same_bits]
  exact congrArg BitVec.ofBool (decide_eq_decide.mpr hK)

theorem kind_first : ofKind V0 1#32 (ix2 0 i) = BitVec.ofBool (decide (i.val < 30)) := by
  refine ofKind_at V0 i _ _ _ _ (v73_at V0 i) _ ?_
  split_ifs with h1 h2 h3 <;> simp [h1]

theorem kind_second : ofKind V0 2#32 (ix2 0 i) = BitVec.ofBool (decide (100 ≤ i.val ∧ i.val < 170)) := by
  refine ofKind_at V0 i _ _ _ _ (v73_at V0 i) _ ?_
  split_ifs with h1 h2 h3 <;> simp <;> omega

theorem kind_third : ofKind V0 3#32 (ix2 0 i) = BitVec.ofBool (decide (300 ≤ i.val ∧ i.val < 370)) := by
  refine ofKind_at V0 i _ _ _ _ (v73_at V0 i) _ ?_
  split_ifs with h1 h2 h3 <;> simp <;> omega

theorem kind_rest : ofKind V0 4#32 (ix2 0 i) = BitVec.ofBool
    (decide (¬(i.val < 30 ∨ (100 ≤ i.val ∧ i.val < 170) ∨ (300 ≤ i.val ∧ i.val < 370)))) := by
  refine ofKind_at V0 i _ _ _ _ (v73_at V0 i) _ ?_
  split_ifs with h1 h2 h3 <;> simp <;> omega

end column

/-! ## Entries -/

/-- The two branches of the condition together: a column of the rest, in the mapping or not, needs a row with no labels in
    the ranges. -/
theorem ready_logic (A B C E H1 H2 H3 N : Prop) [Decidable A] [Decidable B] [Decidable C] [Decidable E] [Decidable H1]
    [Decidable H2] [Decidable H3] [Decidable N] :
    IntOp.ori
      (IntOp.andi
        (~~~IntOp.ori (IntOp.ori (IntOp.ori (BitVec.ofBool (decide A)) (BitVec.ofBool (decide B)))
          (BitVec.ofBool (decide C))) (BitVec.ofBool (decide E)))
        (BitVec.ofBool (decide N)))
      (IntOp.ori
        (IntOp.ori
          (IntOp.ori (IntOp.andi (BitVec.ofBool (decide A)) (BitVec.ofBool (decide H1)))
            (IntOp.andi (BitVec.ofBool (decide B)) (BitVec.ofBool (decide H2))))
          (IntOp.andi (BitVec.ofBool (decide C)) (BitVec.ofBool (decide H3))))
        (IntOp.andi (BitVec.ofBool (decide ¬(A ∨ B ∨ C))) (BitVec.ofBool (decide N)))) = 1#1
    ↔ (A ∧ H1) ∨ (B ∧ H2) ∨ (C ∧ H3) ∨ (¬(A ∨ B ∨ C) ∧ N) := by
  have hx : ∀ b : Bool, ~~~(BitVec.ofBool b) = BitVec.ofBool (!b) := by decide
  simp only [WordCmp.andi_ofBool, WordCmp.ori_ofBool, hx, WordCmp.ofBool_eq_one_iff, Bool.or_eq_true, Bool.and_eq_true,
    Bool.not_eq_true', decide_eq_true_eq, Bool.or_eq_false_iff, decide_eq_false_iff_not]
  tauto

/-- An entry is ready exactly when its column is eligible in its row. -/
theorem ready_at (V0 : Held) (r : Fin 1024) (i : Fin 9605) :
    ready V0 (ix2 r i) = 1#1 ↔ RowEligible (rlab V0 r) i := by
  classical
  pointwise [ready]
  rw [kind_first, kind_second, kind_third, kind_rest, v49_at, v53_at, v57_at, v60_at, v3_at, v8_at, v13_at,
    show res_main_v1 V0 (ix1 i) = BitVec.ofNat 32 i.val from rfl, below i 560 (by norm_num), above i 500 (by norm_num),
    WordCmp.andi_ofBool, ← Bool.decide_and]
  exact ready_logic ..

/-- With labels 0 and 1, an entry's product is its loss. -/
theorem product_at (V0 : Held) (r : Fin 1024) (hy : ∀ i, rlab V0 r i = 0 ∨ rlab V0 r i = 1) (i : Fin 9605) :
    product V0 (ix2 r i) = entryLoss (rlab V0 r) (rsig V0 r) i := by
  classical
  rw [← entryLoss_eq (rlab V0 r) (rsig V0 r) hy
    (fun i => let ⟨a, _, h⟩ := logistic_real (V0 (Proc.devRef .tc main_arg0) (ix2 r i)); ⟨a, h⟩) i
    (IntOp.andi (marked (res_main_v30 V0) (ix2 r i)) (ready V0 (ix2 r i)) = 1#1)]
  · pointwise [product]
    rw [v36_at, v30_at, v0_at]
    unfold likelihood power factor
    rw [max_comm (rsig V0 r i), max_comm (other (rsig V0 r i)), one_mul]
    rfl
  · have h : ∀ a b : BitVec 1, IntOp.andi a b = 1#1 ↔ a = 1#1 ∧ b = 1#1 := by decide
    rw [h, marked_at, ready_at]
    simp only [v30_at]

/-- The sum of the products. -/
def products (V0 : Held) : EReal := ∑ r : Fin 1024, ∑ i : Fin 9605, product V0 (ix2 r i)

theorem res_main_v138_sum (V0 : Held) (j : S_.Idx) : res_main_v138 V0 j = products V0 := by
  rw [res_main_v138_eq]
  unfold products
  pointwise []

/-- The sum of the losses of the entries. -/
def losses (V0 : Held) : EReal := ∑ r : Fin 1024, ∑ i : Fin 9605, entryLoss (rlab V0 r) (rsig V0 r) i

theorem products_eq (V0 : Held) (hy : ∀ r i, rlab V0 r i = 0 ∨ rlab V0 r i = 1) : products V0 = losses V0 :=
  Finset.sum_congr rfl fun r _ => Finset.sum_congr rfl fun i _ => product_at V0 r (hy r) i

/-- The reference's sum is the sum of the losses of the entries. -/
theorem total_at (V0 : Held) (hy : ∀ r i, rlab V0 r i = 0 ∨ rlab V0 r i = 1) (j : S_.Idx) :
    res_main_v138 V0 j = losses V0 :=
  (res_main_v138_sum V0 j).trans (products_eq V0 hy)

end Cert.ReferenceIdeal.Value

end
-- ==== Proof.Equation.lean ====
module

public import proofs.«01_k».proof.Proof.KernelSum
public import proofs.«01_k».proof.Proof.RefValue
public import proofs.«01_k».proof.Proof.Gen.Pre_labels
public import Idealize.ShloMosaic.Lib.ReduceAll

/-!
# The kernel's total is the reference's sum

The precondition says that every label is 0 or 1; then both programs add up the same losses of the entries.
-/

@[expose] public section

noncomputable section

namespace Cert.Equation

open Idealize.ShloMosaic Idealize.ShloMosaic.TcCoe Idealize.SL.Sem
open Cert.Loss

/-- The precondition read back: every label is 0 or 1. -/
theorem labels_cases (x : FVec Ideal Cert.Pre_labels.S1024x9605 .f32) (y : IVec Cert.Pre_labels.S1024x9605 32)
    (h : Cert.Pre_labels.fn (F := Ideal) x y = fun _ => 1#1) (i : Cert.Pre_labels.S1024x9605.Idx) :
    y i = 0#32 ∨ y i = 1#32 := by
  haveI : Subsingleton Cert.Pre_labels.S_.Idx := ⟨fun a b => funext fun k => k.elim0⟩
  have e := Host.reduce_andi_all _ _ _ _ ix0 (congrFun h ix0) i
  have hb : IntOp.ori (IntOp.cmpi .eq (y i) 0#32) (IntOp.cmpi .eq (y i) 1#32) = 1#1 := e
  have hc : ∀ b : BitVec 32, IntOp.cmpi .eq (y i) b = BitVec.ofBool (decide (y i = b)) := fun b => rfl
  rw [hc, hc, WordCmp.ori_ofBool, WordCmp.ofBool_eq_one_iff, Bool.or_eq_true, decide_eq_true_eq, decide_eq_true_eq] at hb
  exact hb

/-- Such a label as a number. -/
theorem label_number (b : BitVec 32) (h : b = 0#32 ∨ b = 1#32) :
    FloatOps.sitofp (F := Ideal) .f32 b = (0 : EReal) ∨ FloatOps.sitofp (F := Ideal) .f32 b = (1 : EReal) := by
  rcases h with rfl | rfl
  · left; show (((0#32 : BitVec 32).toInt : ℝ) : EReal) = 0; simp
  · right; show (((1#32 : BitVec 32).toInt : ℝ) : EReal) = 1; simp

/-- The two sums are over the same losses. -/
theorem losses_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hx : V0 (Proc.devRef .tc Cert.ReferenceIdeal.main_arg0) = m ((c : Thread Cert.KernelIdeal.nD Cert.KernelIdeal.τ).loc Cert.KernelIdeal.main_arg0))
    (hy : V0 (Proc.devRef .tc Cert.ReferenceIdeal.main_arg1) = m ((c : Thread Cert.KernelIdeal.nD Cert.KernelIdeal.τ).loc Cert.KernelIdeal.main_arg1)) :
    Cert.ReferenceIdeal.Value.losses V0 = Cert.KernelIdeal.Value.losses m c := by
  unfold Cert.ReferenceIdeal.Value.losses Cert.KernelIdeal.Value.losses Cert.KernelIdeal.Value.rowLoss
    Cert.ReferenceIdeal.Value.rlab Cert.ReferenceIdeal.Value.rsig Cert.KernelIdeal.Value.klab Cert.KernelIdeal.Value.ksig
  rw [hx, hy]

/-- The two results are equal. -/
theorem result_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hx : V0 (Proc.devRef .tc Cert.ReferenceIdeal.main_arg0) = m ((c : Thread Cert.KernelIdeal.nD Cert.KernelIdeal.τ).loc Cert.KernelIdeal.main_arg0))
    (hy : V0 (Proc.devRef .tc Cert.ReferenceIdeal.main_arg1) = m ((c : Thread Cert.KernelIdeal.nD Cert.KernelIdeal.τ).loc Cert.KernelIdeal.main_arg1))
    (h : Cert.Pre_labels.fn (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1)) = fun _ => 1#1) :
    (Host.negf (Cert.ReferenceIdeal.Value.res_main_v138 V0) : FVec Ideal Cert.ReferenceIdeal.S_ .f32)
      = Host.negf (shapeCast Cert.KernelIdeal.S_ (Cert.KernelIdeal.Value.total m c)
          Cert.KernelIdeal.Facts₀.shapeCasts_S1x1_S_) := by
  have hl : ∀ r i, Cert.ReferenceIdeal.Value.rlab V0 r i = 0 ∨ Cert.ReferenceIdeal.Value.rlab V0 r i = 1 := by
    intro r i
    refine label_number _ ?_
    rw [hy]
    exact labels_cases _ _ h (ix2 r i)
  have e : Cert.ReferenceIdeal.Value.res_main_v138 V0
      = shapeCast Cert.KernelIdeal.S_ (Cert.KernelIdeal.Value.total m c)
          Cert.KernelIdeal.Facts₀.shapeCasts_S1x1_S_ := by
    funext j
    rw [Cert.ReferenceIdeal.Value.total_at V0 hl j, losses_eq m c V0 hx hy, ← Cert.KernelIdeal.Value.total_sum]
    refine congrArg (Cert.KernelIdeal.Value.total m c) ?_
    funext a
    match a with
    | ⟨0, _⟩ => exact Subsingleton.elim (α := Fin 1) _ _
    | ⟨1, _⟩ => exact Subsingleton.elim (α := Fin 1) _ _
  exact congrArg (fun v : FVec Ideal Cert.ReferenceIdeal.S_ .f32 => Host.negf v) e

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its arguments unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) := by
  exact (θ_run _ _ _).mono (fun r h => ⟨fun c => (h c).2, sem_eq_zero_of_no_sems (by decide) r.2⟩)
    (Cert.ReferenceIdeal.Value.run m g)

/-- With labels 0 and 1 the kernel and the reference end with equal results. -/
theorem algebraic : Cert.algebraic_KernelIdeal_ReferenceIdeal_pre_labels (hKernelIdeal := Cert.KernelIdeal.Gen.facts)
    (hReferenceIdeal := Cert.ReferenceIdeal.Gen.facts) (hPre_labels := Cert.Pre_labels.Gen.facts) := by
  intro m g m' g' hpre hagree
  refine ⟨_, Cert.KernelIdeal.Value.run m g, (θ_run _ _ _).mono (fun r h c => ⟨(h c).1.trans ?_, (h c).2⟩)
    (Cert.ReferenceIdeal.Value.run m' g')⟩
  exact Cert.Equation.result_eq m c _ (hagree c).1 (hagree c).2 (hpre c)

/-- Every claim. -/
theorem claim : Cert.Claim := ⟨Cert.Kernel.Gen.facts, Cert.KernelIdeal.Gen.facts, Cert.ReferenceIdeal.Gen.facts, Cert.Pre_labels.Gen.facts,
  fun m g _ => Cert.Kernel.Gen.frame m g, fun m g _ => Cert.KernelIdeal.Gen.frame m g,
  fun m g _ => Cert.KernelIdeal.Gen.frame m g, fun m g _ => reference_frame m g, fun m g _ => reference_frame m g,
  trivial, algebraic⟩

end Cert.Proof

end
